-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_drawn [hPre_inputs_drawn : Cert.Pre_inputs_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_drawn [hPre_inputs_drawn : Cert.Pre_inputs_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_drawn [hKernelIdeal : Cert.KernelIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_drawn [hReferenceIdeal : Cert.ReferenceIdeal.Facts] [hPre_inputs_drawn : Cert.Pre_inputs_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_drawn [hKernelIdeal : Cert.KernelIdeal.Facts] [hReferenceIdeal : Cert.ReferenceIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_drawn : Cert.Pre_inputs_drawn.Facts),
    quiescent_Kernel (hKernel := hKernel)
    ∧ quiescent_KernelIdeal (hKernelIdeal := hKernelIdeal)
    ∧ quiescent_KernelIdeal_pre_inputs_drawn (hKernelIdeal := hKernelIdeal) (hPre_inputs_drawn := hPre_inputs_drawn)
    ∧ quiescent_ReferenceIdeal (hReferenceIdeal := hReferenceIdeal)
    ∧ quiescent_ReferenceIdeal_pre_inputs_drawn (hReferenceIdeal := hReferenceIdeal) (hPre_inputs_drawn := hPre_inputs_drawn)
    ∧ preserves_Kernel_KernelIdeal
    ∧ algebraic_KernelIdeal_ReferenceIdeal_pre_inputs_drawn (hKernelIdeal := hKernelIdeal) (hReferenceIdeal := hReferenceIdeal) (hPre_inputs_drawn := hPre_inputs_drawn)
-- ==== Pre_inputs_drawn.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S319999 : Shape := ⟨1, ![319999]⟩

class Facts : Prop where
  bcast_S_S320000x128 : S_.BroadcastsInDim S320000x128 (![] : Fin 0 → Fin S320000x128.rank)
  bcast_S_S320000 : S_.BroadcastsInDim S320000 (![] : Fin 0 → Fin S320000.rank)
  slices_S320000_S319999_0 : S320000.Slices ![0] S319999
  slices_S320000_S319999_1 : S320000.Slices ![1] S319999
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg5 : FVec F S_ .f32) (main_v2 : IVec S320000x128 1) (main_v7 : IVec S320000 1) (main_v10 : IVec S319999 1) (main_v13 : IVec S128x128 1) (main_v15 : IVec S128 1) (main_v16 : FVec F S128 .f32) (main_v17 : FVec F S128 .f32) : IVec S320000x128 1 × IVec S320000 1 × IVec S319999 1 × IVec S128x128 1 × IVec S128 1 × IVec S128 1 × IVec S_ 1 :=
  let main_v18 : IVec S128 1 := cmpf .olt main_v16 main_v17
  let main_v19 : FVec F S_ .f32 := Host.absf main_arg5
  let main_cst_4 : FVec F S_ .f32 := constant S_ .f32 0x7F800000#32
  let main_v20 : IVec S_ 1 := cmpf .olt main_v19 main_cst_4
  (main_v2, main_v7, main_v10, main_v13, main_v15, main_v18, main_v20)

def fn {F : FTy → Type} [FloatOps F] (main_arg0 : FVec F S320000x128 .f32) (main_arg1 : IVec S320000 32) (main_arg2 : FVec F S128x128 .f32) (main_arg3 : FVec F S128 .f32) (main_arg4 : FVec F S128 .f32) (main_arg5 : FVec F S_ .f32) : IVec S320000x128 1 × IVec S320000 1 × IVec S319999 1 × IVec S128x128 1 × IVec S128 1 × IVec S128 1 × IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 32 := constantI S_ 32 0#32
  let main_v3 : IVec S320000 32 := broadcastInDim S320000 ![] bcast_S_S320000 main_c
  let main_v4 : IVec S320000 1 := cmpi .sge main_arg1 main_v3
  let main_c_0 : IVec S_ 32 := constantI S_ 32 256#32
  let main_v5 : IVec S320000 32 := broadcastInDim S320000 ![] bcast_S_S320000 main_c_0
  let main_v6 : IVec S320000 1 := cmpi .slt main_arg1 main_v5
  let main_v7 : IVec S320000 1 := andi main_v4 main_v6
  let main_v8 : IVec S319999 32 := (extractStridedSlice S319999 ![0] · slices_S320000_S319999_0) main_arg1
  let main_v9 : IVec S319999 32 := (extractStridedSlice S319999 ![1] · slices_S320000_S319999_1) main_arg1
  let main_v10 : IVec S319999 1 := cmpi .sle main_v8 main_v9
  let main_v11 : FVec F S128x128 .f32 := Host.absf main_arg2
  let main_cst_1 : FVec F S_ .f32 := constant S_ .f32 0x7F800000#32
  let main_v12 : FVec F S128x128 .f32 := broadcastInDim S128x128 ![] bcast_S_S128x128 main_cst_1
  let main_v13 : IVec S128x128 1 := cmpf .olt main_v11 main_v12
  let main_cst_2 : FVec F S_ .f32 := constant S_ .f32 0x00000000#32
  let main_v14 : FVec F S128 .f32 := broadcastInDim S128 ![] bcast_S_S128 main_cst_2
  let main_v15 : IVec S128 1 := cmpf .oeq main_arg3 main_v14
  let main_v16 : FVec F S128 .f32 := Host.absf main_arg4
  let main_cst_3 : FVec F S_ .f32 := constant S_ .f32 0x7F800000#32
  let main_v17 : FVec F S128 .f32 := broadcastInDim S128 ![] bcast_S_S128 main_cst_3
  fn_part1 (F := F) main_arg5 main_v2 main_v7 main_v10 main_v13 main_v15 main_v16 main_v17
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S20 : Shape := ⟨1, ![20]⟩
abbrev S1x20 : Shape := ⟨2, ![1, 20]⟩
abbrev S2x20 : Shape := ⟨2, ![2, 20]⟩
abbrev S20x1x16000 : Shape := ⟨3, ![20, 1, 16000]⟩
abbrev S1x128 : Shape := ⟨2, ![1, 128]⟩
abbrev S256x128 : Shape := ⟨2, ![256, 128]⟩
abbrev S16000x128 : Shape := ⟨2, ![16000, 128]⟩
abbrev S1x1x16000 : Shape := ⟨3, ![1, 1, 16000]⟩
abbrev S256x1 : Shape := ⟨2, ![256, 1]⟩
abbrev S128x16000 : Shape := ⟨2, ![128, 16000]⟩
abbrev S1x16000 : Shape := ⟨2, ![1, 16000]⟩
abbrev S1x1 : Shape := ⟨2, ![1, 1]⟩
abbrev S16x16000 : Shape := ⟨2, ![16, 16000]⟩
abbrev S256x16 : Shape := ⟨2, ![256, 16]⟩
abbrev S16 : Shape := ⟨1, ![16]⟩
abbrev S16x1 : Shape := ⟨2, ![16, 1]⟩
abbrev S16x128 : Shape := ⟨2, ![16, 128]⟩
abbrev S256x16000 : Shape := ⟨2, ![256, 16000]⟩
abbrev S256 : Shape := ⟨1, ![256]⟩

abbrev nBuf : Space → Nat
  | .hbm => 17
  | .vmem => 10
  | .smem => 1
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S20, .i32⟩
  | .hbm, ⟨7, _⟩ => ⟨S20, .i32⟩
  | .hbm, ⟨8, _⟩ => ⟨S20, .i32⟩
  | .hbm, ⟨9, _⟩ => ⟨S_, .i32⟩
  | .hbm, ⟨10, _⟩ => ⟨S20, .i32⟩
  | .hbm, ⟨11, _⟩ => ⟨S20, .i32⟩
  | .hbm, ⟨12, _⟩ => ⟨S1x20, .i32⟩
  | .hbm, ⟨13, _⟩ => ⟨S1x20, .i32⟩
  | .hbm, ⟨14, _⟩ => ⟨S20x1x16000, .i32⟩
  | .hbm, ⟨15, _⟩ => ⟨S1x128, .f32⟩
  | .hbm, ⟨16, _⟩ => ⟨S256x128, .f32⟩
  | .local _ .vmem, ⟨0, _⟩ => ⟨S16000x128, .f32⟩
  | .local _ .vmem, ⟨1, _⟩ => ⟨S16000x128, .f32⟩
  | .local _ .vmem, ⟨2, _⟩ => ⟨S1x1x16000, .i32⟩
  | .local _ .vmem, ⟨3, _⟩ => ⟨S1x1x16000, .i32⟩
  | .local _ .vmem, ⟨4, _⟩ => ⟨S128x128, .f32⟩
  | .local _ .vmem, ⟨5, _⟩ => ⟨S1x128, .f32⟩
  | .local _ .vmem, ⟨6, _⟩ => ⟨S256x128, .f32⟩
  | .local _ .vmem, ⟨7, _⟩ => ⟨S256x1, .f32⟩
  | .local _ .vmem, ⟨8, _⟩ => ⟨S256x1, .f32⟩
  | .local _ .vmem, ⟨9, _⟩ => ⟨S256x128, .f32⟩
  | .local _ .smem, ⟨0, _⟩ => ⟨S2x20, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0_11 : Index := 0#32
  let arg0 : BitVec 32 := BitVec.ofNat 32 (i 0).val
  let v13 : Index := Scalar.indexCast arg0
  ![0, v13.toNat]
def k0_off2 (i : grid0.Coords) : Fin 2 → Nat :=
  let c1 : Index := 1#32
  let arg0 : BitVec 32 := BitVec.ofNat 32 (i 0).val
  let v15 : Index := Scalar.indexCast arg0
  ![1, v15.toNat]
def k0_cond4 (i : grid0.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S1x128 : Shape := ⟨2, ![1, 128]⟩
abbrev S256 : Shape := ⟨1, ![256]⟩
abbrev S256x1 : Shape := ⟨2, ![256, 1]⟩
abbrev S1x320000 : Shape := ⟨2, ![1, 320000]⟩
abbrev S256x320000 : Shape := ⟨2, ![256, 320000]⟩
abbrev S320000x1 : Shape := ⟨2, ![320000, 1]⟩
abbrev S256x128 : Shape := ⟨2, ![256, 128]⟩

abbrev nBuf : Space → Nat
  | .hbm => 71
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128x128, .f32⟩
  | .hbm, ⟨7, _⟩ => ⟨S320000x128, .f32⟩
  | .hbm, ⟨8, _⟩ => ⟨S1x128, .f32⟩
  | .hbm, ⟨9, _⟩ => ⟨S320000x128, .f32⟩
  | .hbm, ⟨10, _⟩ => ⟨S320000x128, .f32⟩
  | .hbm, ⟨11, _⟩ => ⟨S_, .f32⟩
  | .hbm, ⟨12, _⟩ => ⟨S320000x128, .f32⟩
  | .hbm, ⟨13, _⟩ => ⟨S320000x128, .f32⟩
  | .hbm, ⟨14, _⟩ => ⟨S320000, .f32⟩
  | .hbm, ⟨15, _⟩ => ⟨S320000, .f32⟩
  | .hbm, ⟨16, _⟩ => ⟨S320000, .f32⟩
  | .hbm, ⟨17, _⟩ => ⟨S256, .i32⟩
  | .hbm, ⟨18, _⟩ => ⟨S256x1, .i32⟩
  | .hbm, ⟨19, _⟩ => ⟨S1x320000, .i32⟩
  | .hbm, ⟨20, _⟩ => ⟨S256x320000, .i32⟩
  | .hbm, ⟨21, _⟩ => ⟨S256x320000, .i32⟩
  | .hbm, ⟨22, _⟩ => ⟨S256x320000, .i1⟩
  | .hbm, ⟨23, _⟩ => ⟨S1x320000, .f32⟩
  | .hbm, ⟨24, _⟩ => ⟨S_, .f32⟩
  | .hbm, ⟨25, _⟩ => ⟨S_, .f32⟩
  | .hbm, ⟨26, _⟩ => ⟨S256x320000, .f32⟩
  | .hbm, ⟨27, _⟩ => ⟨S256x320000, .f32⟩
  | .hbm, ⟨28, _⟩ => ⟨S256x320000, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .i1⟩
  | .hbm, ⟨35, _⟩ => ⟨S_, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000, .f32⟩
  | .hbm, ⟨48, _⟩ => ⟨S320000, .f32⟩
  | .hbm, ⟨49, _⟩ => ⟨S320000, .f32⟩
  | .hbm, ⟨50, _⟩ => ⟨S_, .f32⟩
  | .hbm, ⟨51, _⟩ => ⟨S256, .f32⟩
  | .hbm, ⟨52, _⟩ => ⟨S320000x1, .i32⟩
  | .hbm, ⟨53, _⟩ => ⟨S256, .f32⟩
  | .hbm, ⟨54, _⟩ => ⟨S_, .i32⟩
  | .hbm, ⟨55, _⟩ => ⟨S320000, .i32⟩
  | .hbm, ⟨56, _⟩ => ⟨S320000, .i1⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S320000, .i32⟩
  | .hbm, ⟨61, _⟩ => ⟨S320000x1, .i32⟩
  | .hbm, ⟨62, _⟩ => ⟨S320000, .f32⟩
  | .hbm, ⟨63, _⟩ => ⟨S320000, .f32⟩
  | .hbm, ⟨64, _⟩ => ⟨S320000x1, .f32⟩
  | .hbm, ⟨65, _⟩ => ⟨S320000x128, .f32⟩
  | .hbm, ⟨66, _⟩ => ⟨S320000x128, .f32⟩
  | .hbm, ⟨67, _⟩ => ⟨S_, .f32⟩
  | .hbm, ⟨68, _⟩ => ⟨S256x128, .f32⟩
  | .hbm, ⟨69, _⟩ => ⟨S320000x1, .i32⟩
  | .hbm, ⟨70, _⟩ => ⟨S256x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Proof.Pieces.lean ====
/- What each run of the body leaves in the three scratch arrays and, at the last point, in the output block: the stored
value over the loads. Three kinds of point (first, middle, last), two paths (window, full). -/
module

public import proofs.«01_k».proof.Proof.Gen.KernelIdeal.Frame
public import Idealize.ShloMosaic.Lib.Pipeline.ValueKit
public import Idealize.ShloMosaic.Lib.Pipeline.ReadBack

@[expose] public section

noncomputable section

namespace Cert.Pool

open Idealize.ShloMosaic Idealize.SL.Sem Cert.KernelIdeal Cert.KernelIdeal.Gen

set_option maxRecDepth 16384
set_option maxHeartbeats 1000000

variable {F : FTy → Type} [FloatOps F]

variable (c : Dev nD) (i : grid0.Coords) (arg2 : Memref sig .tc .vmem S16000x128 .f32) (harg2 : arg2.IsWhole) (arg3 : Memref sig .tc .vmem S1x1x16000 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S256x128 .f32) (harg6 : arg6.IsWhole) (arg7 : Memref sig .tc .vmem S256x1 .f32) (harg7 : arg7.IsWhole)
  (arg8 : Memref sig .tc .vmem S256x1 .f32) (harg8 : arg8.IsWhole) (arg9 : Memref sig .tc .vmem S256x128 .f32) (harg9 : arg9.IsWhole)
  (x0 : Vec F S16000x128 .f32) (x1 : Vec F S1x1x16000 .i32) (x2 : Vec F S128x128 .f32) (x3 : Vec F S1x128 .f32) (xt0 : TbBuf0 (F := F) c tbM0_0)
  (xs0 : Vec F S256x1 .f32) (xs1 : Vec F S256x1 .f32) (xs2 : Vec F S256x128 .f32)

/-- The span word the body reads from its table at a point. -/
abbrev spanWord (c : Dev nD) (i : grid0.Coords) (xt0 : TbBuf0 (F := F) c tbM0_0) : BitVec 32 :=
  tbM0_0.view.readAt (Elt F) (Rect.unit (s := S2x20) (k0_off2 i) S1x1.size (k0_off2_inb i)).toLoadRect xt0 (Shape.Idx.first (numel1_S1x1.symm ▸ Nat.one_pos))

/-- The first-segment word the body reads from its table at a point. -/
abbrev firstWord (c : Dev nD) (i : grid0.Coords) (xt0 : TbBuf0 (F := F) c tbM0_0) : BitVec 32 :=
  tbM0_0.view.readAt (Elt F) (Rect.unit (s := S2x20) (k0_off1 i) S1x1.size (k0_off1_inb i)).toLoadRect xt0 (Shape.Idx.first (numel1_S1x1.symm ▸ Nat.one_pos))

/-- The maxima the window path leaves at the first point. -/
theorem first_window_0 (hc0 : cond0_0 i) (hc3 : ¬cond0_3 i) (hc1 : cond0_1 i (spanWord c i xt0)) (hc2 : ¬cond0_2 i (spanWord c i xt0)) :
    sout0_B_0 c i arg2 harg2 arg3 harg3 arg4 harg4 arg5 harg5 arg6 harg6 arg7 harg7 arg8 harg8 arg9 harg9 hc0 hc3 x0 x1 x2 x3 xt0 hc1 hc2 =
      k0_pay6 (k0_pay20 (k0_pay4 x0 x2 x3) (k0_pay5 x1) (firstWord c i xt0) k0_pay1) := by
  frame_out
  rfl

/-- The denominators the window path leaves at the first point. -/
theorem first_window_1 (hc0 : cond0_0 i) (hc3 : ¬cond0_3 i) (hc1 : cond0_1 i (spanWord c i xt0)) (hc2 : ¬cond0_2 i (spanWord c i xt0)) :
    sout0_B_1 c i arg2 harg2 arg3 harg3 arg4 harg4 arg5 harg5 arg6 harg6 arg7 harg7 arg8 harg8 arg9 harg9 hc0 hc3 x0 x1 x2 x3 xt0 hc1 hc2 =
      k0_pay7 (k0_pay21 (k0_pay4 x0 x2 x3) (k0_pay5 x1) (firstWord c i xt0) k0_pay1) (k0_pay23 (k0_pay4 x0 x2 x3) (k0_pay5 x1) (firstWord c i xt0) k0_pay1) k0_pay2 := by
  frame_out
  rfl

/-- The weighted rows the window path leaves at the first point. -/
theorem first_window_2 (hc0 : cond0_0 i) (hc3 : ¬cond0_3 i) (hc1 : cond0_1 i (spanWord c i xt0)) (hc2 : ¬cond0_2 i (spanWord c i xt0)) :
    sout0_B_2 c i arg2 harg2 arg3 harg3 arg4 harg4 arg5 harg5 arg6 harg6 arg7 harg7 arg8 harg8 arg9 harg9 hc0 hc3 x0 x1 x2 x3 xt0 hc1 hc2 =
      k0_pay8 (k0_pay21 (k0_pay4 x0 x2 x3) (k0_pay5 x1) (firstWord c i xt0) k0_pay1) (k0_pay24 x0 (k0_pay4 x0 x2 x3) (k0_pay5 x1) (firstWord c i xt0) k0_pay1) k0_pay3 := by
  frame_out
  rfl

/-- The maxima the full path leaves at the first point. -/
theorem first_full_0 (hc0 : cond0_0 i) (hc3 : ¬cond0_3 i) (hc1 : ¬cond0_1 i (spanWord c i xt0)) (hc2 : cond0_2 i (spanWord c i xt0)) :
    sout0_C_0 c i arg2 harg2 arg3 harg3 arg4 harg4 arg5 harg5 arg6 harg6 arg7 harg7 arg8 harg8 arg9 harg9 hc0 hc3 x0 x1 x2 x3 xt0 hc1 hc2 =
      k0_pay13 x0 x2 x3 x1 k0_pay1 := by
  frame_out

/-- The denominators the full path leaves at the first point. -/
theorem first_full_1 (hc0 : cond0_0 i) (hc3 : ¬cond0_3 i) (hc1 : ¬cond0_1 i (spanWord c i xt0)) (hc2 : cond0_2 i (spanWord c i xt0)) :
    sout0_C_1 c i arg2 harg2 arg3 harg3 arg4 harg4 arg5 harg5 arg6 harg6 arg7 harg7 arg8 harg8 arg9 harg9 hc0 hc3 x0 x1 x2 x3 xt0 hc1 hc2 =
      k0_pay14 x0 x2 x3 x1 k0_pay1 k0_pay2 := by
  frame_out

/-- The weighted rows the full path leaves at the first point. -/
theorem first_full_2 (hc0 : cond0_0 i) (hc3 : ¬cond0_3 i) (hc1 : ¬cond0_1 i (spanWord c i xt0)) (hc2 : cond0_2 i (spanWord c i xt0)) :
    sout0_C_2 c i arg2 harg2 arg3 harg3 arg4 harg4 arg5 harg5 arg6 harg6 arg7 harg7 arg8 harg8 arg9 harg9 hc0 hc3 x0 x1 x2 x3 xt0 hc1 hc2 =
      k0_pay15 x0 x2 x3 x1 k0_pay1 k0_pay3 := by
  frame_out

/-- The maxima the window path leaves at a middle point. -/
theorem middle_window_0 (hc0 : ¬cond0_0 i) (hc3 : ¬cond0_3 i) (hc1 : cond0_1 i (spanWord c i xt0)) (hc2 : ¬cond0_2 i (spanWord c i xt0)) :
    sout0_F_0 c i arg2 harg2 arg3 harg3 arg4 harg4 arg5 harg5 arg6 harg6 arg7 harg7 arg8 harg8 arg9 harg9 hc0 hc3 x0 x1 x2 x3 xt0 xs0 xs1 xs2 hc1 hc2 =
      k0_pay6 (k0_pay20 (k0_pay4 x0 x2 x3) (k0_pay5 x1) (firstWord c i xt0) xs0) := by
  frame_out
  rfl

/-- The denominators the window path leaves at a middle point. -/
theorem middle_window_1 (hc0 : ¬cond0_0 i) (hc3 : ¬cond0_3 i) (hc1 : cond0_1 i (spanWord c i xt0)) (hc2 : ¬cond0_2 i (spanWord c i xt0)) :
    sout0_F_1 c i arg2 harg2 arg3 harg3 arg4 harg4 arg5 harg5 arg6 harg6 arg7 harg7 arg8 harg8 arg9 harg9 hc0 hc3 x0 x1 x2 x3 xt0 xs0 xs1 xs2 hc1 hc2 =
      k0_pay7 (k0_pay21 (k0_pay4 x0 x2 x3) (k0_pay5 x1) (firstWord c i xt0) xs0) (k0_pay23 (k0_pay4 x0 x2 x3) (k0_pay5 x1) (firstWord c i xt0) xs0) xs1 := by
  frame_out
  rfl

/-- The weighted rows the window path leaves at a middle point. -/
theorem middle_window_2 (hc0 : ¬cond0_0 i) (hc3 : ¬cond0_3 i) (hc1 : cond0_1 i (spanWord c i xt0)) (hc2 : ¬cond0_2 i (spanWord c i xt0)) :
    sout0_F_2 c i arg2 harg2 arg3 harg3 arg4 harg4 arg5 harg5 arg6 harg6 arg7 harg7 arg8 harg8 arg9 harg9 hc0 hc3 x0 x1 x2 x3 xt0 xs0 xs1 xs2 hc1 hc2 =
      k0_pay8 (k0_pay21 (k0_pay4 x0 x2 x3) (k0_pay5 x1) (firstWord c i xt0) xs0) (k0_pay24 x0 (k0_pay4 x0 x2 x3) (k0_pay5 x1) (firstWord c i xt0) xs0) xs2 := by
  frame_out
  rfl

/-- The maxima the full path leaves at a middle point. -/
theorem middle_full_0 (hc0 : ¬cond0_0 i) (hc3 : ¬cond0_3 i) (hc1 : ¬cond0_1 i (spanWord c i xt0)) (hc2 : cond0_2 i (spanWord c i xt0)) :
    sout0_G_0 c i arg2 harg2 arg3 harg3 arg4 harg4 arg5 harg5 arg6 harg6 arg7 harg7 arg8 harg8 arg9 harg9 hc0 hc3 x0 x1 x2 x3 xt0 xs0 xs1 xs2 hc1 hc2 =
      k0_pay13 x0 x2 x3 x1 xs0 := by
  frame_out

/-- The denominators the full path leaves at a middle point. -/
theorem middle_full_1 (hc0 : ¬cond0_0 i) (hc3 : ¬cond0_3 i) (hc1 : ¬cond0_1 i (spanWord c i xt0)) (hc2 : cond0_2 i (spanWord c i xt0)) :
    sout0_G_1 c i arg2 harg2 arg3 harg3 arg4 harg4 arg5 harg5 arg6 harg6 arg7 harg7 arg8 harg8 arg9 harg9 hc0 hc3 x0 x1 x2 x3 xt0 xs0 xs1 xs2 hc1 hc2 =
      k0_pay14 x0 x2 x3 x1 xs0 xs1 := by
  frame_out

/-- The weighted rows the full path leaves at a middle point. -/
theorem middle_full_2 (hc0 : ¬cond0_0 i) (hc3 : ¬cond0_3 i) (hc1 : ¬cond0_1 i (spanWord c i xt0)) (hc2 : cond0_2 i (spanWord c i xt0)) :
    sout0_G_2 c i arg2 harg2 arg3 harg3 arg4 harg4 arg5 harg5 arg6 harg6 arg7 harg7 arg8 harg8 arg9 harg9 hc0 hc3 x0 x1 x2 x3 xt0 xs0 xs1 xs2 hc1 hc2 =
      k0_pay15 x0 x2 x3 x1 xs0 xs2 := by
  frame_out

/-- The output block the window path leaves at the last point: the new rows over the new denominators. -/
theorem last_window_output (hc0 : ¬cond0_0 i) (hc3 : cond0_3 i) (hc1 : cond0_1 i (spanWord c i xt0)) (hc2 : ¬cond0_2 i (spanWord c i xt0)) :
    out0_J_4 c i arg2 harg2 arg3 harg3 arg4 harg4 arg5 harg5 arg6 harg6 arg7 harg7 arg8 harg8 arg9 harg9 hc0 hc3 x0 x1 x2 x3 xt0 xs0 xs1 xs2 hc1 hc2 =
      k0_pay16 (k0_pay7 (k0_pay21 (k0_pay4 x0 x2 x3) (k0_pay5 x1) (firstWord c i xt0) xs0) (k0_pay23 (k0_pay4 x0 x2 x3) (k0_pay5 x1) (firstWord c i xt0) xs0) xs1) (k0_pay8 (k0_pay21 (k0_pay4 x0 x2 x3) (k0_pay5 x1) (firstWord c i xt0) xs0) (k0_pay24 x0 (k0_pay4 x0 x2 x3) (k0_pay5 x1) (firstWord c i xt0) xs0) xs2) := by
  frame_out
  rfl

/-- The output block the full path leaves at the last point: the new rows over the new denominators. -/
theorem last_full_output (hc0 : ¬cond0_0 i) (hc3 : cond0_3 i) (hc1 : ¬cond0_1 i (spanWord c i xt0)) (hc2 : cond0_2 i (spanWord c i xt0)) :
    out0_K_4 c i arg2 harg2 arg3 harg3 arg4 harg4 arg5 harg5 arg6 harg6 arg7 harg7 arg8 harg8 arg9 harg9 hc0 hc3 x0 x1 x2 x3 xt0 xs0 xs1 xs2 hc1 hc2 =
      k0_pay16 (k0_pay14 x0 x2 x3 x1 xs0 xs1) (k0_pay15 x0 x2 x3 x1 xs0 xs2) := by
  frame_out

end Cert.Pool

end
-- ==== Proof.Entry.lean ====
/- What the region finds when it starts: the words the table holds, and the blocks the windows hand the body, all read off
the arguments. -/
module

public import proofs.«01_k».proof.Proof.Pieces

@[expose] public section

noncomputable section

namespace Cert.Pool

open Idealize.ShloMosaic Idealize.SL.Sem Cert.KernelIdeal Cert.KernelIdeal.Gen

set_option maxRecDepth 16384

variable {F : FTy → Type} [FloatOps F]

/-- There are twenty points. -/
theorem point_lt (t : Fin grid0.N) : t.val < 20 := Nat.lt_of_lt_of_eq t.isLt N_0

/-- A point's one coordinate is its number. -/
theorem point_coord (t : Fin grid0.N) : (grid0.coords t 0).val = t.val := by
  have e0 : (grid0.coords t 0).val = t.val / 1 % 20 := Pipeline.Grid.coords_val t 0 (by decide) rfl
  have := point_lt t
  omega

/-- The word of a point's coordinate, as a natural. -/
theorem point_word (t : Fin grid0.N) : (BitVec.ofNat 32 (grid0.coords t 0).val).toNat = t.val := by
  have := point_lt t
  rw [point_coord, BitVec.toNat_ofNat]
  omega

/-- The first-segment word of a point is the table's first row there. -/
theorem first_word (c : Dev nD) (t : Fin grid0.N) (X : TbBuf0 (F := F) c tbM0_0) :
    firstWord c (grid0.coords t) X = (X : S2x20.Idx → BitVec 32) (ix2 0 ⟨t.val, point_lt t⟩) := by
  change (X : S2x20.Idx → BitVec 32) _ = _
  refine congrArg X (funext fun a => Fin.ext ?_)
  match a with
  | 0 => rfl
  | 1 => exact (point_word t)

/-- The span word of a point is the table's second row there. -/
theorem span_word (c : Dev nD) (t : Fin grid0.N) (X : TbBuf0 (F := F) c tbM0_0) :
    spanWord c (grid0.coords t) X = (X : S2x20.Idx → BitVec 32) (ix2 1 ⟨t.val, point_lt t⟩) := by
  change (X : S2x20.Idx → BitVec 32) _ = _
  refine congrArg X (funext fun a => Fin.ext ?_)
  match a with
  | 0 => rfl
  | 1 => exact (point_word t)

variable (m : (ℓ : Loc nD τ sig) → Buf (Elt F) ℓ)

/-- Window 0 at point `t` holds rows `16000 t, …` of the first argument. -/
theorem rows_block (hO : Ok m) (c : Dev nD) (t : Fin (cfgM m hO).N) (p : Fin 16000) (j : Fin 128) (h : 16000 * t.val + p.val < 320000) :
    iblk m hO c 0 t (ix2 p j) = m ((c.tc : Thread nD τ).loc main_arg0) ((ix2 ⟨16000 * t.val + p.val, h⟩ j : S320000x128.Idx)) := by
  have e0 : ((cfgM m hO).win 0).index t (0 : Fin 2) = t.val := point_word t
  have e1 : ((cfgM m hO).win 0).index t (1 : Fin 2) = 0 := rfl
  blk_ext [iblk, V, e0, e1]

/-- The segment numbers, twenty rows of 16000. -/
theorem entry_seg (c : Dev nD) (n : Fin 20) (p : Fin 16000) (h : 16000 * n.val + p.val < 320000) :
    V m c main_v8 (ix3 n 0 p : S20x1x16000.Idx) = m ((c.tc : Thread nD τ).loc main_arg1) (ix1 ⟨16000 * n.val + p.val, h⟩ : S320000.Idx) := by
  entry_read
  pointwise
  have e : (⟨n.val * 16000 + p.val, by omega⟩ : Fin 320000) = ⟨16000 * n.val + p.val, h⟩ := Fin.ext (by change n.val * 16000 + p.val = 16000 * n.val + p.val; omega)
  rw [e]

/-- The table's first row: each block's first segment number. -/
theorem entry_first (c : Dev nD) (n : Fin 20) (h : 16000 * n.val < 320000) :
    V m c main_v7 (ix2 0 n : S2x20.Idx) = m ((c.tc : Thread nD τ).loc main_arg1) (ix1 ⟨16000 * n.val, h⟩ : S320000.Idx) := by
  entry_read
  pointwise

/-- The table's second row: each block's last segment number less its first, at most 256. -/
theorem entry_span (c : Dev nD) (n : Fin 20) (h : 16000 * n.val < 320000) (h' : 16000 * n.val + 15999 < 320000) :
    V m c main_v7 (ix2 1 n : S2x20.Idx) = IntOp.minsi (IntOp.subi (m ((c.tc : Thread nD τ).loc main_arg1) (ix1 ⟨16000 * n.val + 15999, h'⟩ : S320000.Idx))
      (m ((c.tc : Thread nD τ).loc main_arg1) (ix1 ⟨16000 * n.val, h⟩ : S320000.Idx))) 256#32 := by
  entry_read
  pointwise
  have e : (⟨15999 + 16000 * n.val, by omega⟩ : Fin 320000) = ⟨16000 * n.val + 15999, h'⟩ := Fin.ext (Nat.add_comm _ _)
  rw [e]

/-- The score weights as one row. -/
theorem entry_weights (c : Dev nD) (j : Fin 128) :
    V m c main_v9 (ix2 0 j : S1x128.Idx) = m ((c.tc : Thread nD τ).loc main_arg4) (ix1 j : S128.Idx) := by
  entry_read
  pointwise

/-- Window 1 at point `t` holds segment numbers `16000 t, …`. -/
theorem seg_block (hO : Ok m) (c : Dev nD) (t : Fin (cfgM m hO).N) (p : Fin 16000) (h : 16000 * t.val + p.val < 320000) :
    iblk m hO c 1 t (ix3 0 0 p) = m ((c.tc : Thread nD τ).loc main_arg1) (ix1 ⟨16000 * t.val + p.val, h⟩ : S320000.Idx) := by
  rw [← entry_seg m c ⟨t.val, point_lt t⟩ p h]
  unfold iblk
  change V m c main_v8 _ = _
  refine congrArg (V m c main_v8) (funext fun (a : Fin 3) => Fin.ext ?_)
  match a with
  | 0 =>
    have e := point_word t
    change (BitVec.ofNat 32 (grid0.coords t 0).val).toNat * 1 + 0 = t.val
    omega
  | 1 => rfl
  | 2 => change 0 * 16000 + 1 * p.val = p.val; omega

/-- Window 2 holds the whole attention matrix. -/
theorem att_block (hO : Ok m) (c : Dev nD) (t : Fin (cfgM m hO).N) (k j : Fin 128) :
    iblk m hO c 2 t (ix2 k j) = m ((c.tc : Thread nD τ).loc main_arg2) (ix2 k j : S128x128.Idx) := by
  have e0 : ((cfgM m hO).win 2).index t (0 : Fin 2) = 0 := rfl
  have e1 : ((cfgM m hO).win 2).index t (1 : Fin 2) = 0 := rfl
  blk_ext [iblk, V, e0, e1]

/-- Window 3 holds the whole row of score weights. -/
theorem weights_block (hO : Ok m) (c : Dev nD) (t : Fin (cfgM m hO).N) (j : Fin 128) :
    iblk m hO c 3 t (ix2 0 j) = m ((c.tc : Thread nD τ).loc main_arg4) (ix1 j : S128.Idx) := by
  rw [← entry_weights m c j]
  unfold iblk
  change V m c main_v9 _ = _
  refine congrArg (V m c main_v9) (funext fun (a : Fin 2) => Fin.ext ?_)
  match a with
  | 0 => rfl
  | 1 => change 0 * 128 + 1 * j.val = j.val; omega

end Cert.Pool

end
-- ==== Proof.Reals.lean ====
/- The mathematics of pooling with a softmax inside each segment, over the reals: what one more block of rows does to the
   running sums, and that a change of the subtracted constant does not change the quotient. No program appears here. -/
module

public import Mathlib.Analysis.SpecialFunctions.Exp
public import Mathlib.Algebra.BigOperators.Fin
public import Mathlib.Algebra.BigOperators.Intervals
public import Mathlib.Data.EReal.Operations

@[expose] public section

noncomputable section

namespace Cert.Pool

open Finset

/-- A sum over the rows below `n + k` is the sum over the rows below `n` and the sum over the next `k` rows. -/
theorem sum_below_add {N : ℕ} (f : Fin N → ℝ) (n k : ℕ) (h : n + k ≤ N) :
    (∑ r : Fin N, if r.val < n + k then f r else 0)
      = (∑ r : Fin N, if r.val < n then f r else 0) + ∑ p : Fin k, f ⟨n + p.val, by omega⟩ := by
  have key : ∀ j, j ≤ N → (∑ r : Fin N, if r.val < j then f r else 0)
      = ∑ i ∈ range j, if hi : i < N then f ⟨i, hi⟩ else 0 := by
    intro j hj
    rw [← Finset.sum_filter]
    refine Finset.sum_bij' (fun r _ => r.val) (fun i hi => ⟨i, lt_of_lt_of_le (Finset.mem_range.mp hi) hj⟩) ?_ ?_ ?_ ?_ ?_
    · intro r hr; simpa using hr
    · intro i hi; simpa using hi
    · intro r _; rfl
    · intro i _; rfl
    · intro r _; simp
  rw [key _ h, key _ (by omega), Finset.sum_range_add, Finset.sum_range (n := k)]
  congr 1
  refine Finset.sum_congr rfl fun p _ => ?_
  rw [dif_pos]

/-- The running sum of segment `b` over the rows below `n`: each row of the segment adds `exp (s r - M) * w r`. -/
def below {N B : ℕ} (s : Fin N → ℝ) (g : Fin N → Fin B) (w : Fin N → ℝ) (n : ℕ) (M : ℝ) (b : Fin B) : ℝ :=
  ∑ r : Fin N, if r.val < n then (if g r = b then Real.exp (s r - M) * w r else 0) else 0

/-- One block more, with the subtracted constant moved from `M` to `M'`: the old sum is rescaled by `exp (M - M')`. -/
theorem below_step {N B : ℕ} (s : Fin N → ℝ) (g : Fin N → Fin B) (w : Fin N → ℝ) (n k : ℕ) (h : n + k ≤ N) (M M' : ℝ)
    (b : Fin B) :
    below s g w n M b * Real.exp (M - M')
        + ∑ p : Fin k, (if g ⟨n + p.val, by omega⟩ = b then Real.exp (s ⟨n + p.val, by omega⟩ - M') * w ⟨n + p.val, by omega⟩ else 0)
      = below s g w (n + k) M' b := by
  unfold below
  rw [sum_below_add (fun r => if g r = b then Real.exp (s r - M') * w r else 0) n k h, Finset.sum_mul]
  congr 1
  refine Finset.sum_congr rfl fun r _ => ?_
  by_cases h1 : r.val < n
  · by_cases h2 : g r = b
    · simp only [h1, h2, if_true]
      rw [show s r - M' = (s r - M) + (M - M') by ring, Real.exp_add]; ring
    · simp [h1, h2]
  · simp [h1]

/-- Before the first row every running sum is zero. -/
theorem below_zero {N B : ℕ} (s : Fin N → ℝ) (g : Fin N → Fin B) (w : Fin N → ℝ) (M : ℝ) (b : Fin B) : below s g w 0 M b = 0 := by
  simp [below]

/-- The softmax-weighted mean of `w` over segment `b` (zero where the segment has no row). -/
def pooled {N B : ℕ} (s : Fin N → ℝ) (g : Fin N → Fin B) (w : Fin N → ℝ) (b : Fin B) : ℝ :=
  (∑ r : Fin N, if g r = b then Real.exp (s r) * w r else 0) / (∑ r : Fin N, if g r = b then Real.exp (s r) else 0)

/-- Over every row the subtracted constant factors out. -/
theorem below_all {N B : ℕ} (s : Fin N → ℝ) (g : Fin N → Fin B) (w : Fin N → ℝ) (M : ℝ) (b : Fin B) :
    below s g w N M b = Real.exp (-M) * ∑ r : Fin N, if g r = b then Real.exp (s r) * w r else 0 := by
  unfold below
  rw [Finset.mul_sum]
  refine Finset.sum_congr rfl fun r _ => ?_
  rw [if_pos r.isLt]
  split
  · rw [show s r - M = -M + s r by ring, Real.exp_add]; ring
  · simp

/-- The quotient of the two running sums over every row is the pooled mean, whatever constant was subtracted. -/
theorem below_div {N B : ℕ} (s : Fin N → ℝ) (g : Fin N → Fin B) (w : Fin N → ℝ) (M : ℝ) (b : Fin B) :
    below s g w N M b / below s g (fun _ => 1) N M b = pooled s g w b := by
  rw [below_all, below_all, mul_div_mul_left _ _ (Real.exp_ne_zero _)]
  simp [pooled]

/-- A running sum of weights is never negative. -/
theorem below_one_nonneg {N B : ℕ} (s : Fin N → ℝ) (g : Fin N → Fin B) (n : ℕ) (M : ℝ) (b : Fin B) :
    0 ≤ below s g (fun _ => 1) n M b := by
  unfold below
  refine Finset.sum_nonneg fun r _ => ?_
  split
  · split
    · positivity
    · exact le_rfl
  · exact le_rfl

/-- The kernel's last step: the quotient where the weights' sum is positive and zero where it is not, which is the
    quotient of reals in either case. -/
theorem below_div_of_pos {N B : ℕ} (s : Fin N → ℝ) (g : Fin N → Fin B) (w : Fin N → ℝ) (M : ℝ) (b : Fin B) :
    (if 0 < below s g (fun _ => 1) N M b then below s g w N M b / below s g (fun _ => 1) N M b else 0) = pooled s g w b := by
  rw [← below_div s g w M b]
  split
  · rfl
  · next h =>
    rw [le_antisymm (not_lt.mp h) (below_one_nonneg s g N M b), div_zero]

/-- The reference's form: rows weighted one by one by their share of the segment's sum, from scores moved by a constant
    `c` and a constant `m b` of the segment's. -/
theorem sum_share {N B : ℕ} (s : Fin N → ℝ) (g : Fin N → Fin B) (w : Fin N → ℝ) (c : ℝ) (m : Fin B → ℝ) (b : Fin B) :
    (∑ r : Fin N, if g r = b then
        w r * (Real.exp (s r + c - m (g r)) / ∑ q : Fin N, if g q = g r then Real.exp (s q + c - m (g q)) else 0) else 0)
      = pooled s g w b := by
  have hd : (∑ q : Fin N, if g q = b then Real.exp (s q + c - m (g q)) else 0)
      = Real.exp (c - m b) * ∑ q : Fin N, if g q = b then Real.exp (s q) else 0 := by
    rw [Finset.mul_sum]
    refine Finset.sum_congr rfl fun q _ => ?_
    split
    · next h => rw [h, show s q + c - m b = (c - m b) + s q by ring, Real.exp_add]
    · simp
  unfold pooled
  rw [div_eq_mul_inv, Finset.sum_mul]
  refine Finset.sum_congr rfl fun r _ => ?_
  split
  · next h =>
    rw [h, hd, show s r + c - m b = (c - m b) + s r by ring, Real.exp_add, mul_div_mul_left _ _ (Real.exp_ne_zero _)]
    ring
  · simp

/-- A coerced sum of reals. -/
theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- A coerced maximum of reals. -/
theorem coe_max (a b : ℝ) : ((max a b : ℝ) : EReal) = max (a : EReal) (b : EReal) :=
  EReal.coe_strictMono.monotone.map_max

/-- The maximum of nonempty many reals, begun at `⊥`, is a real. -/
theorem fold_max_real {ι : Type*} (t : Finset ι) (ht : t.Nonempty) (f : ι → EReal) (hf : ∀ i ∈ t, ∃ x : ℝ, f i = (x : EReal)) :
    ∃ x : ℝ, t.fold max ⊥ f = (x : EReal) := by
  classical
  have key : ∀ t : Finset ι, (∀ i ∈ t, ∃ x : ℝ, f i = (x : EReal)) → t.fold max ⊥ f = ⊥ ∧ t = ∅ ∨ ∃ x : ℝ, t.fold max ⊥ f = (x : EReal) := by
    intro t
    induction t using Finset.induction_on with
    | empty => intro _; exact .inl ⟨by simp, rfl⟩
    | insert a t h ih =>
      intro hf
      refine .inr ?_
      obtain ⟨x, hx⟩ := hf a (Finset.mem_insert_self _ _)
      rw [Finset.fold_insert h, hx]
      rcases ih (fun i hi => hf i (Finset.mem_insert_of_mem hi)) with ⟨h1, -⟩ | ⟨y, hy⟩
      · exact ⟨x, by rw [h1]; simp⟩
      · exact ⟨max x y, by rw [hy, coe_max]⟩
  rcases key t hf with ⟨-, h⟩ | h
  · exact absurd h ht.ne_empty
  · exact h

/-- The maximum, begun at `⊥`, of values each `⊥` or real, one of them real, is a real. -/
theorem fold_max_real_of_mem {ι : Type*} (t : Finset ι) (f : ι → EReal) (hf : ∀ i ∈ t, f i = ⊥ ∨ ∃ x : ℝ, f i = (x : EReal))
    (i₀ : ι) (h₀ : i₀ ∈ t) (hx : ∃ x : ℝ, f i₀ = (x : EReal)) : ∃ x : ℝ, t.fold max ⊥ f = (x : EReal) := by
  classical
  have key : ∀ t : Finset ι, (∀ i ∈ t, f i = ⊥ ∨ ∃ x : ℝ, f i = (x : EReal)) →
      (t.fold max ⊥ f = ⊥ ∧ ∀ i ∈ t, f i = ⊥) ∨ ∃ x : ℝ, t.fold max ⊥ f = (x : EReal) := by
    intro t
    induction t using Finset.induction_on with
    | empty => intro _; exact .inl ⟨by simp, by simp⟩
    | insert a t h ih =>
      intro hf
      rw [Finset.fold_insert h]
      rcases ih (fun i hi => hf i (Finset.mem_insert_of_mem hi)) with ⟨h1, h2⟩ | ⟨y, hy⟩
      · rcases hf a (Finset.mem_insert_self _ _) with h3 | ⟨x, h3⟩
        · refine .inl ⟨by rw [h1, h3]; simp, fun i hi => ?_⟩
          rcases Finset.mem_insert.mp hi with rfl | hi
          · exact h3
          · exact h2 i hi
        · exact .inr ⟨x, by rw [h1, h3]; simp⟩
      · rcases hf a (Finset.mem_insert_self _ _) with h3 | ⟨x, h3⟩
        · exact .inr ⟨y, by rw [hy, h3]; simp⟩
        · exact .inr ⟨max x y, by rw [hy, h3, coe_max]⟩
  rcases key t hf with ⟨-, h⟩ | h
  · obtain ⟨x, hx⟩ := hx
    rw [h i₀ h₀] at hx
    exact absurd hx (EReal.bot_ne_coe x)
  · exact h

end Cert.Pool

end
-- ==== Proof.Words.lean ====
/- The few constants and integer words the kernel's blocks hold, read as extended reals and as naturals. -/
module

public import proofs.«01_k».proof.Proof.Reals
public import Idealize.ShloMosaic.Lib.Pointwise
public import Idealize.ShloMosaic.Lib.WordCmp

@[expose] public section

noncomputable section

namespace Cert.Pool

open Idealize.ShloMosaic

/-- The pattern of minus infinity is the least extended real. -/
theorem bits_bot : Idealize.ShloMosaic.Ideal.ofBits FTy.f32 0xFF800000#32 = ⊥ := by
  simp [Idealize.ShloMosaic.Ideal.ofBits, Idealize.ShloMosaic.Ideal.ieee, -EReal.coe_mul]

/-- The pattern of plus infinity is the greatest extended real. -/
theorem bits_top : Idealize.ShloMosaic.Ideal.ofBits FTy.f32 0x7F800000#32 = ⊤ := by
  simp [Idealize.ShloMosaic.Ideal.ofBits, Idealize.ShloMosaic.Ideal.ieee, -EReal.coe_mul]

/-- The constant the running maxima begin at denotes some real number; which one does not matter. -/
theorem bits_low : ∃ x : ℝ, Idealize.ShloMosaic.Ideal.ofBits FTy.f32 0xF149F2CA#32 = (x : EReal) := by
  simp only [Idealize.ShloMosaic.Ideal.ofBits, Idealize.ShloMosaic.Ideal.ieee]
  norm_num [-EReal.coe_mul]
  exact ⟨_, rfl⟩

/-- The number of a one-bit word: one where it is set, zero where it is not. -/
theorem bit_number (c : BitVec 1) :
    FloatOps.sitofp (F := Idealize.ShloMosaic.Ideal) FTy.f32 (BitVec.setWidth 32 c) = (((if c = 1#1 then 1 else 0 : ℝ)) : EReal) := by
  rcases BitVec.eq_zero_or_eq_one c with rfl | rfl
  · simp [FloatOps.sitofp]
  · simp [FloatOps.sitofp]

/-- Two small naturals have the same word exactly when they are equal. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The equality comparison of two words, as a bit. -/
theorem cmpi_eq_one {a b : ℕ} (ha : a < 2 ^ 32) (hb : b < 2 ^ 32) :
    IntOp.cmpi CmpIPredicate.eq (BitVec.ofNat 32 a) (BitVec.ofNat 32 b) = 1#1 ↔ a = b := by
  rw [← ofNat_eq_iff ha hb]
  unfold IntOp.cmpi
  generalize BitVec.ofNat 32 a = u
  generalize BitVec.ofNat 32 b = v
  by_cases h : u = v
  · simp [h]
  · have h' : (u == v) = false := by simpa using h
    simp [h, h']

/-- The word sum of two small naturals is the word of their sum. -/
theorem addi_ofNat (a b : ℕ) : IntOp.addi (BitVec.ofNat 32 a) (BitVec.ofNat 32 b) = BitVec.ofNat 32 (a + b) := by
  unfold IntOp.addi
  rw [BitVec.ofNat_add]

end Cert.Pool

end
-- ==== Proof.Inputs.lean ====
/-
What the precondition says of the six arguments: real entries, graph numbers that are
natural numbers below 256 in ascending order, and a zero bias before the nonlinearity.
-/
module
public import proofs.«01_k».proof.Proof.Words
public import proofs.«01_k».proof.Pre_inputs_drawn
@[expose] public section
noncomputable section
namespace Cert.Pool
open Idealize.ShloMosaic Cert.Pre_inputs_drawn
set_option maxRecDepth 16384

/-- The arguments, read as real arrays `X`, `W`, `ws`, a real number `β` and an ascending
list `g` of graph numbers below 256; the first bias is zero. -/
structure Drawn (x : FVec Idealize.ShloMosaic.Ideal S320000x128 .f32) (seg : IVec S320000 32)
    (att : FVec Idealize.ShloMosaic.Ideal S128x128 .f32)
    (ba w : FVec Idealize.ShloMosaic.Ideal S128 .f32) (bs : FVec Idealize.ShloMosaic.Ideal S_ .f32)
    (X : Fin 320000 → Fin 128 → ℝ) (g : Fin 320000 → Fin 256) (W : Fin 128 → Fin 128 → ℝ)
    (ws : Fin 128 → ℝ) (β : ℝ) : Prop where
  rows : ∀ r j, x (ix2 r j) = (X r j : EReal)
  seg : ∀ r, seg (ix1 r) = BitVec.ofNat 32 (g r).val
  mono : ∀ r q, r.val ≤ q.val → (g r).val ≤ (g q).val
  att : ∀ k j, att (ix2 k j) = (W k j : EReal)
  bias : ∀ k, ba (ix1 k) = (0 : EReal)
  weights : ∀ k, w (ix1 k) = (ws k : EReal)
  shift : bs ix0 = (β : EReal)

/-- A number whose absolute value compares below infinity is real. -/
theorem real_of_finite (x : EReal)
    (h : BitVec.ofBool (decide (FloatOps.absf (F := Idealize.ShloMosaic.Ideal) (φ := .f32) x
      < Idealize.ShloMosaic.Ideal.ofBits FTy.f32 0x7F800000#32)) = 1#1) :
    ∃ r : ℝ, x = (r : EReal) := by
  rw [bits_top] at h
  induction x with
  | bot => simp [FloatOps.absf] at h
  | top => simp [FloatOps.absf] at h
  | coe r => exact ⟨r, rfl⟩

/-- A word in the signed range from 0 to 255 is the word of a natural number below 256. -/
theorem word_range (w : BitVec 32)
    (h : IntOp.andi (IntOp.cmpi CmpIPredicate.sge w 0#32) (IntOp.cmpi CmpIPredicate.slt w 256#32)
      = 1#1) : w.toNat < 256 := by
  word_cmp at h

/-- Two words below 256 that compare in order are numbers in order. -/
theorem word_order (v w : BitVec 32) (hv : v.toNat < 256) (hw : w.toNat < 256)
    (h : IntOp.cmpi CmpIPredicate.sle v w = 1#1) : v.toNat ≤ w.toNat := by
  word_cmp at h

/-- A list whose neighbours are in order is in order throughout. -/
theorem mono_of_neighbours (g : Fin 320000 → ℕ)
    (h : ∀ s : Fin 319999, g ⟨s.val, by omega⟩ ≤ g ⟨1 + s.val, by omega⟩) :
    ∀ r q : Fin 320000, r.val ≤ q.val → g r ≤ g q := by
  have step : ∀ (k a : ℕ) (ha : a + k < 320000), g ⟨a, by omega⟩ ≤ g ⟨a + k, ha⟩ := by
    intro k
    induction k with
    | zero => intro a ha; exact le_refl _
    | succ k ih =>
      intro a ha
      refine (ih a (by omega)).trans ?_
      have := h ⟨a + k, by omega⟩
      have e : (⟨1 + (a + k), by omega⟩ : Fin 320000) = ⟨a + (k + 1), ha⟩ := Fin.ext (by simp; omega)
      rw [e] at this
      exact this
  intro r q hrq
  have := step (q.val - r.val) r.val (by omega)
  have e : (⟨r.val + (q.val - r.val), by omega⟩ : Fin 320000) = q := Fin.ext (by simp; omega)
  rw [e] at this
  exact this

variable [Cert.Pre_inputs_drawn.Facts]

/-- The precondition gives the real arrays and the ascending graph numbers. -/
theorem drawn_of_pre (x : FVec Idealize.ShloMosaic.Ideal S320000x128 .f32) (seg : IVec S320000 32)
    (att : FVec Idealize.ShloMosaic.Ideal S128x128 .f32)
    (ba w : FVec Idealize.ShloMosaic.Ideal S128 .f32) (bs : FVec Idealize.ShloMosaic.Ideal S_ .f32)
    (h1 : (fn x seg att ba w bs).1 = fun _ => 1#1)
    (h2 : (fn x seg att ba w bs).2.1 = fun _ => 1#1)
    (h3 : (fn x seg att ba w bs).2.2.1 = fun _ => 1#1)
    (h4 : (fn x seg att ba w bs).2.2.2.1 = fun _ => 1#1)
    (h5 : (fn x seg att ba w bs).2.2.2.2.1 = fun _ => 1#1)
    (h6 : (fn x seg att ba w bs).2.2.2.2.2.1 = fun _ => 1#1)
    (h7 : (fn x seg att ba w bs).2.2.2.2.2.2 = fun _ => 1#1) :
    ∃ X g W ws β, Drawn x seg att ba w bs X g W ws β := by
  have r1 : ∀ r j, ∃ v : ℝ, x (ix2 r j) = (v : EReal) := by
    intro r j
    have h := congrFun h1 (ix2 r j)
    dsimp only [fn, fn_part1] at h
    pointwise at h
    exact real_of_finite _ h
  have r2 : ∀ r, (seg (ix1 r)).toNat < 256 := by
    intro r
    have h := congrFun h2 (ix1 r)
    dsimp only [fn, fn_part1] at h
    pointwise at h
    exact word_range _ h
  have r3 : ∀ s : Fin 319999, (seg (ix1 ⟨s.val, by omega⟩)).toNat
      ≤ (seg (ix1 ⟨1 + s.val, by omega⟩)).toNat := by
    intro s
    have h := congrFun h3 (ix1 s)
    dsimp only [fn, fn_part1] at h
    pointwise at h
    exact word_order _ _ (r2 _) (r2 _) h
  have r4 : ∀ k j, ∃ v : ℝ, att (ix2 k j) = (v : EReal) := by
    intro k j
    have h := congrFun h4 (ix2 k j)
    dsimp only [fn, fn_part1] at h
    pointwise at h
    exact real_of_finite _ h
  have r5 : ∀ k, ba (ix1 k) = (0 : EReal) := by
    intro k
    have h := congrFun h5 (ix1 k)
    dsimp only [fn, fn_part1] at h
    pointwise at h
    exact of_decide_eq_true (BitVec.ofBool_eq_iff_eq.mp h : decide (ba (ix1 k) = 0) = true)
  have r6 : ∀ k, ∃ v : ℝ, w (ix1 k) = (v : EReal) := by
    intro k
    have h := congrFun h6 (ix1 k)
    dsimp only [fn, fn_part1] at h
    pointwise at h
    exact real_of_finite _ h
  have r7 : ∃ v : ℝ, bs ix0 = (v : EReal) := by
    have h := congrFun h7 ix0
    dsimp only [fn, fn_part1] at h
    pointwise at h
    exact real_of_finite _ h
  choose X hX using r1
  choose W hW using r4
  choose ws hws using r6
  obtain ⟨β, hβ⟩ := r7
  exact ⟨X, fun r => ⟨(seg (ix1 r)).toNat, r2 r⟩, W, ws, β,
    { rows := hX
      seg := fun r => by simp
      mono := mono_of_neighbours (fun r => (seg (ix1 r)).toNat) r3
      att := hW
      bias := r5
      weights := hws
      shift := hβ }⟩

end Cert.Pool
end
-- ==== Proof.BlockScore.lean ====
/- The attention scores of one block, in the reals, and what one block is asked to do to the running state. -/
module

public import proofs.«01_k».proof.Proof.Words
public import proofs.«01_k».proof.Proof.Gen.KernelIdeal.Skeleton

@[expose] public section

noncomputable section

namespace Cert.Pool

open Idealize.ShloMosaic Idealize.SL.Sem Cert.KernelIdeal Cert.KernelIdeal.Gen

set_option maxRecDepth 16384

/-- The score of one row `x`: the weights `ws` against the rectified hidden row `W x`. -/
def score (W : Fin 128 → Fin 128 → ℝ) (ws : Fin 128 → ℝ) (x : Fin 128 → ℝ) : ℝ :=
  ∑ k, ws k * max (∑ j, W k j * x j) 0

/-- The block's scores are the real scores of its rows. -/
theorem score_block (X : Fin 16000 → Fin 128 → ℝ) (W : Fin 128 → Fin 128 → ℝ) (ws : Fin 128 → ℝ)
    (v3 : Vec Idealize.ShloMosaic.Ideal S16000x128 .f32) (v4 : Vec Idealize.ShloMosaic.Ideal S128x128 .f32)
    (v8 : Vec Idealize.ShloMosaic.Ideal S1x128 .f32)
    (h3 : ∀ p j, v3 (ix2 p j) = ((X p j : ℝ) : EReal)) (h4 : ∀ k j, v4 (ix2 k j) = ((W k j : ℝ) : EReal))
    (h8 : ∀ k, v8 (ix2 0 k) = ((ws k : ℝ) : EReal)) (p : Fin 16000) :
    k0_pay4 (F := Idealize.ShloMosaic.Ideal) v3 v4 v8 (ix2 0 p) = ((score W ws (X p) : ℝ) : EReal) := by
  pointwise [k0_pay4]
  unfold score
  rw [coe_sum]
  refine Finset.sum_congr rfl fun k _ => ?_
  rw [EReal.coe_mul, coe_max, coe_sum, h8 k]
  congr 2
  refine Finset.sum_congr rfl fun j _ => ?_
  rw [h3, h4, EReal.coe_mul]

/-- One online-softmax step over a block with scores `s`, segments `g` and rows `X`: from maxima `M` the maxima move to
some real `M'`; the denominators and the weighted rows are rescaled by the move and take the block's terms on top. -/
def Stepped (s : Fin 16000 → ℝ) (g : Fin 16000 → Fin 256) (X : Fin 16000 → Fin 128 → ℝ) (M : Fin 256 → ℝ)
    (d m' d' : Vec Idealize.ShloMosaic.Ideal S256x1 .f32) (a a' : Vec Idealize.ShloMosaic.Ideal S256x128 .f32) : Prop :=
  ∃ M' : Fin 256 → ℝ, (∀ b, m' (ix2 b 0) = ((M' b : ℝ) : EReal)) ∧
    (∀ (b : Fin 256) (D : ℝ), d (ix2 b 0) = (D : EReal) → d' (ix2 b 0) =
      ((D * Real.exp (M b - M' b) + ∑ p, (if g p = b then Real.exp (s p - M' b) * 1 else 0) : ℝ) : EReal)) ∧
    (∀ (b : Fin 256) (h : Fin 128) (A : ℝ), a (ix2 b h) = (A : EReal) → a' (ix2 b h) =
      ((A * Real.exp (M b - M' b) + ∑ p, (if g p = b then Real.exp (s p - M' b) * X p h else 0) : ℝ) : EReal))

/-- A maximum over a block of reals and of the low constant, begun at minus infinity, is real. -/
theorem fold_select_real (c : Fin 16000 → BitVec 1) (f : Fin 16000 → EReal) (hf : ∀ p, ∃ x : ℝ, f p = (x : EReal)) :
    ∃ x : ℝ, Finset.fold max (Idealize.ShloMosaic.Ideal.ofBits FTy.f32 4286578688#32)
      (fun p => Scalar.select (c p) (f p) (Idealize.ShloMosaic.Ideal.ofBits FTy.f32 4048155338#32)) Finset.univ = (x : EReal) := by
  rw [bits_bot]
  refine fold_max_real _ ⟨0, Finset.mem_univ _⟩ _ fun p _ => ?_
  unfold Scalar.select
  split
  · exact hf p
  · exact bits_low

/-- A product of the number of a bit and a real. -/
theorem bit_mul (c : BitVec 1) (P : Prop) [Decidable P] (h : c = 1#1 ↔ P) (x : ℝ) :
    FloatOps.sitofp (F := Idealize.ShloMosaic.Ideal) FTy.f32 (BitVec.setWidth 32 c) * (x : EReal) = ((if P then x else 0 : ℝ) : EReal) := by
  rw [bit_number, ← EReal.coe_mul]
  by_cases hp : P
  · simp [hp, h.2 hp]
  · have : ¬ c = 1#1 := fun e => hp (h.1 e)
    simp [hp, this]

end Cert.Pool

end
-- ==== Proof.Running.lean ====
/-
The running state of the kernel: after some rows the three scratch arrays hold real maxima,
the exponential sums over the rows so far and the weighted sums over the rows so far.
One block's step moves that state on by 16000 rows, and the final division gives the pooled rows.
-/
module
public import proofs.«01_k».proof.Proof.BlockScore
@[expose] public section
noncomputable section
namespace Cert.Pool
open Idealize.ShloMosaic Idealize.SL.Sem Cert.KernelIdeal Cert.KernelIdeal.Gen
set_option maxRecDepth 16384

variable (X : Fin 320000 → Fin 128 → ℝ) (g : Fin 320000 → Fin 256) (s : Fin 320000 → ℝ)

/-- The scratch arrays after the first `n` rows: some real maxima, and the two sums taken against them. -/
def Holds (n : ℕ) (mx d : Vec Idealize.ShloMosaic.Ideal S256x1 .f32) (a : Vec Idealize.ShloMosaic.Ideal S256x128 .f32) : Prop :=
  ∃ M : Fin 256 → ℝ, (∀ b, mx (ix2 b 0) = ((M b : ℝ) : EReal)) ∧
    (∀ b, d (ix2 b 0) = ((below s g (fun _ => 1) n (M b) b : ℝ) : EReal)) ∧
    (∀ b h, a (ix2 b h) = ((below s g (fun r => X r h) n (M b) b : ℝ) : EReal))

/-- The initial contents are the state before any row. -/
theorem holds_start : Holds X g s 0 (k0_pay1 (F := Idealize.ShloMosaic.Ideal)) (k0_pay2 (F := Idealize.ShloMosaic.Ideal)) (k0_pay3 (F := Idealize.ShloMosaic.Ideal)) := by
  obtain ⟨x, hx⟩ := bits_low
  refine ⟨fun _ => x, fun b => ?_, fun b => ?_, fun b h => ?_⟩
  · pointwise [k0_pay1]
    exact hx
  · pointwise [k0_pay2]
    rw [below_zero]
    simp
  · pointwise [k0_pay3]
    rw [below_zero]
    simp

/-- One block's step moves the state on by 16000 rows. -/
theorem holds_step (n : ℕ) (hn : n + 16000 ≤ 320000) (mx d m' d' : Vec Idealize.ShloMosaic.Ideal S256x1 .f32)
    (a a' : Vec Idealize.ShloMosaic.Ideal S256x128 .f32)
    (hS : ∀ M : Fin 256 → ℝ, (∀ b, mx (ix2 b 0) = ((M b : ℝ) : EReal)) →
      Stepped (fun p => s ⟨n + p.val, by omega⟩) (fun p => g ⟨n + p.val, by omega⟩) (fun p => X ⟨n + p.val, by omega⟩) M d m' d' a a')
    (hH : Holds X g s n mx d a) : Holds X g s (n + 16000) m' d' a' := by
  obtain ⟨M, hm, hd, ha⟩ := hH
  obtain ⟨M', hm', hd', ha'⟩ := hS M hm
  refine ⟨M', hm', fun b => ?_, fun b h => ?_⟩
  · rw [hd' b _ (hd b), below_step s g (fun _ => 1) n 16000 hn]
  · rw [ha' b h _ (ha b h), below_step s g (fun r => X r h) n 16000 hn]

/-- The final division of the state after every row gives the pooled rows. -/
theorem holds_end (mx d : Vec Idealize.ShloMosaic.Ideal S256x1 .f32) (a : Vec Idealize.ShloMosaic.Ideal S256x128 .f32)
    (hH : Holds X g s 320000 mx d a) (b : Fin 256) (h : Fin 128) :
    k0_pay16 d a (ix2 b h) = ((pooled s g (fun r => X r h) b : ℝ) : EReal) := by
  obtain ⟨M, -, hd, ha⟩ := hH
  pointwise [k0_pay16]
  rw [hd b, ha b h, ← below_div_of_pos s g (fun r => X r h) (M b) b]
  by_cases hp : 0 < below s g (fun _ => 1) 320000 (M b) b
  · simp only [EReal.coe_pos, hp, if_true]
    rw [Idealize.ShloMosaic.Ideal.div_coe hp.ne', ← EReal.coe_mul, mul_one_div]
  · simp [hp]

end Cert.Pool
end
-- ==== Proof.BlockFull.lean ====
/- What one block does to the running state on the path that looks at all 256 segments. -/
module

public import proofs.«01_k».proof.Proof.BlockScore

@[expose] public section

noncomputable section

namespace Cert.Pool

open Idealize.ShloMosaic Idealize.SL.Sem Cert.KernelIdeal Cert.KernelIdeal.Gen

set_option maxRecDepth 16384

variable (v3 : Vec Idealize.ShloMosaic.Ideal S16000x128 .f32) (v4 : Vec Idealize.ShloMosaic.Ideal S128x128 .f32)
  (v8 : Vec Idealize.ShloMosaic.Ideal S1x128 .f32) (v11 : Vec Idealize.ShloMosaic.Ideal S1x1x16000 .i32)
  (v17 v52 : Vec Idealize.ShloMosaic.Ideal S256x1 .f32) (v58 : Vec Idealize.ShloMosaic.Ideal S256x128 .f32)

/-- A row's membership bit at segment `b`: the comparison of the two numbers. -/
theorem full_mask (b : Fin 256) (p : Fin 16000) :
    k0_pay9 v11 (ix2 b p) = IntOp.cmpi CmpIPredicate.eq (BitVec.ofNat 32 b) (v11 (ix3 0 0 p)) := by
  pointwise [k0_pay9, k0_pay5]

/-- The new maximum of segment `b`. -/
theorem full_max (b : Fin 256) :
    k0_pay10 v3 v4 v8 v11 v17 (ix2 b 0) = max (v17 (ix2 b 0)) (Finset.fold max (Idealize.ShloMosaic.Ideal.ofBits FTy.f32 4286578688#32)
      (fun p => Scalar.select (k0_pay9 v11 (ix2 b p)) (k0_pay4 v3 v4 v8 (ix2 0 p)) (Idealize.ShloMosaic.Ideal.ofBits FTy.f32 4048155338#32)) Finset.univ) := by
  pointwise [k0_pay10]

/-- The stored maximum is the new maximum. -/
theorem full_stored (b : Fin 256) : k0_pay13 v3 v4 v8 v11 v17 (ix2 b 0) = k0_pay10 v3 v4 v8 v11 v17 (ix2 b 0) := by
  pointwise [k0_pay13]

/-- The weight of row `p` at segment `b`. -/
theorem full_weight (b : Fin 256) (p : Fin 16000) :
    k0_pay12 v3 v4 v8 v11 v17 (ix2 b p) = FloatOps.sitofp (F := Idealize.ShloMosaic.Ideal) .f32 (BitVec.setWidth 32 (k0_pay9 v11 (ix2 b p))) *
      Idealize.ShloMosaic.Ideal.exp (k0_pay4 v3 v4 v8 (ix2 0 p) - ∑ x, k0_pay10 v3 v4 v8 v11 v17 (ix2 x 0) *
        FloatOps.sitofp (F := Idealize.ShloMosaic.Ideal) .f32 (BitVec.setWidth 32 (k0_pay9 v11 (ix2 x p)))) := by
  pointwise [k0_pay12]

/-- The new denominator of segment `b`. -/
theorem full_denominator (b : Fin 256) :
    k0_pay14 v3 v4 v8 v11 v17 v52 (ix2 b 0) = v52 (ix2 b 0) * Idealize.ShloMosaic.Ideal.exp (v17 (ix2 b 0) - k0_pay10 v3 v4 v8 v11 v17 (ix2 b 0)) +
      ∑ p, k0_pay12 v3 v4 v8 v11 v17 (ix2 b p) := by
  pointwise [k0_pay14, k0_pay11]

/-- The new weighted row of segment `b` at column `h`. -/
theorem full_rows (b : Fin 256) (h : Fin 128) :
    k0_pay15 v3 v4 v8 v11 v17 v58 (ix2 b h) = v58 (ix2 b h) * Idealize.ShloMosaic.Ideal.exp (v17 (ix2 b 0) - k0_pay10 v3 v4 v8 v11 v17 (ix2 b 0)) +
      ∑ p, k0_pay12 v3 v4 v8 v11 v17 (ix2 b p) * v3 (ix2 p h) := by
  pointwise [k0_pay15, k0_pay11]

/-- The full path takes one online-softmax step. -/
theorem full_stepped (X : Fin 16000 → Fin 128 → ℝ) (W : Fin 128 → Fin 128 → ℝ) (ws : Fin 128 → ℝ)
    (g : Fin 16000 → Fin 256) (M : Fin 256 → ℝ)
    (h3 : ∀ p j, v3 (ix2 p j) = ((X p j : ℝ) : EReal)) (h4 : ∀ k j, v4 (ix2 k j) = ((W k j : ℝ) : EReal))
    (h8 : ∀ k, v8 (ix2 0 k) = ((ws k : ℝ) : EReal)) (h11 : ∀ p, v11 (ix3 0 0 p) = BitVec.ofNat 32 (g p))
    (h17 : ∀ b, v17 (ix2 b 0) = ((M b : ℝ) : EReal)) :
    Stepped (fun p => score W ws (X p)) g X M v52 (k0_pay13 v3 v4 v8 v11 v17) (k0_pay14 v3 v4 v8 v11 v17 v52)
      v58 (k0_pay15 v3 v4 v8 v11 v17 v58) := by
  have hs : ∀ p, k0_pay4 (F := Idealize.ShloMosaic.Ideal) v3 v4 v8 (ix2 0 p) = ((score W ws (X p) : ℝ) : EReal) :=
    score_block X W ws v3 v4 v8 h3 h4 h8
  have hm : ∀ b p, k0_pay9 (F := Idealize.ShloMosaic.Ideal) v11 (ix2 b p) = 1#1 ↔ g p = b := fun b p => by
    rw [full_mask, h11, cmpi_eq_one (by omega) (by omega)]
    exact ⟨fun e => (Fin.ext e).symm, fun e => by rw [e]⟩
  have hmax : ∀ b, ∃ x : ℝ, k0_pay10 (F := Idealize.ShloMosaic.Ideal) v3 v4 v8 v11 v17 (ix2 b 0) = (x : EReal) := fun b => by
    obtain ⟨x, hx⟩ := fold_select_real (fun p => k0_pay9 v11 (ix2 b p)) (fun p => k0_pay4 v3 v4 v8 (ix2 0 p)) (fun p => ⟨_, hs p⟩)
    rw [full_max, hx, h17]
    exact ⟨max (M b) x, (coe_max _ _).symm⟩
  choose M' hM' using hmax
  have hw : ∀ b p, k0_pay12 (F := Idealize.ShloMosaic.Ideal) v3 v4 v8 v11 v17 (ix2 b p) =
      ((if g p = b then Real.exp (score W ws (X p) - M' b) else 0 : ℝ) : EReal) := fun b p => by
    have e : ∑ x, k0_pay10 v3 v4 v8 v11 v17 (ix2 x 0) *
        FloatOps.sitofp (F := Idealize.ShloMosaic.Ideal) .f32 (BitVec.setWidth 32 (k0_pay9 v11 (ix2 x p))) = ((M' (g p) : ℝ) : EReal) := by
      have : ∀ x, k0_pay10 v3 v4 v8 v11 v17 (ix2 x 0) *
          FloatOps.sitofp (F := Idealize.ShloMosaic.Ideal) .f32 (BitVec.setWidth 32 (k0_pay9 v11 (ix2 x p))) =
            ((if g p = x then M' x else 0 : ℝ) : EReal) := fun x => by
        rw [hM', mul_comm, bit_mul _ _ (hm x p)]
      rw [Finset.sum_congr rfl fun x _ => this x, ← coe_sum]
      congr 1
      simp
    rw [full_weight, e, hs, ← EReal.coe_sub, Idealize.ShloMosaic.Ideal.exp_coe, bit_mul _ _ (hm b p)]
    by_cases hb : g p = b
    · simp [hb]
    · simp [hb]
  refine ⟨M', fun b => by rw [full_stored, hM'], fun b D hD => ?_, fun b h A hA => ?_⟩
  · rw [full_denominator, hD, h17, hM', ← EReal.coe_sub, Idealize.ShloMosaic.Ideal.exp_coe, Finset.sum_congr rfl fun p _ => hw b p,
      ← coe_sum, ← EReal.coe_mul, ← EReal.coe_add]
    simp
  · have : ∀ p, k0_pay12 v3 v4 v8 v11 v17 (ix2 b p) * v3 (ix2 p h) =
        ((if g p = b then Real.exp (score W ws (X p) - M' b) * X p h else 0 : ℝ) : EReal) := fun p => by
      rw [hw, h3, ← EReal.coe_mul]
      congr 1
      split <;> simp
    rw [full_rows, hA, h17, hM', ← EReal.coe_sub, Idealize.ShloMosaic.Ideal.exp_coe, Finset.sum_congr rfl fun p _ => this p,
      ← coe_sum, ← EReal.coe_mul, ← EReal.coe_add]

end Cert.Pool

end
-- ==== Proof.BlockWindow.lean ====
/- What one block does to the running state on the path that looks at sixteen consecutive segments only. -/
module

public import proofs.«01_k».proof.Proof.BlockScore

@[expose] public section

noncomputable section

namespace Cert.Pool

open Idealize.ShloMosaic Idealize.SL.Sem Cert.KernelIdeal Cert.KernelIdeal.Gen

set_option maxRecDepth 16384

/-- Spreading sixteen window sums back over the segments gives each segment the sum of its own rows, where every row's
segment lies in the window. -/
theorem window_sum {n : ℕ} (f : ℕ) (g : Fin n → Fin 256) (hin : ∀ p, f ≤ (g p : ℕ) ∧ (g p : ℕ) < f + 16) (E : Fin n → ℝ) (b : Fin 256) :
    (∑ k : Fin 16, if (b : ℕ) = f + k then (∑ p, if f + k = (g p : ℕ) then E p else 0) else 0) = ∑ p, if g p = b then E p else 0 := by
  by_cases hb : f ≤ (b : ℕ) ∧ (b : ℕ) < f + 16
  · rw [Finset.sum_eq_single (⟨b - f, by omega⟩ : Fin 16)]
    · have hk : (b : ℕ) = f + (b - f) := by omega
      rw [if_pos hk]
      refine Finset.sum_congr rfl fun p _ => ?_
      have : f + ((⟨b - f, by omega⟩ : Fin 16) : ℕ) = (g p : ℕ) ↔ g p = b := by
        rw [Fin.ext_iff]
        change f + (b - f) = (g p : ℕ) ↔ (g p : ℕ) = b
        omega
      simp only [this]
    · intro k _ hk
      rw [if_neg]
      intro e
      exact hk (Fin.ext (by change (k : ℕ) = b - f; omega))
    · intro h
      exact absurd (Finset.mem_univ _) h
  · rw [Finset.sum_eq_zero, Finset.sum_eq_zero]
    · intro p _
      rw [if_neg]
      intro e
      exact hb (e ▸ hin p)
    · intro k _
      rw [if_neg]
      omega

section Values

variable (v3 : Vec Idealize.ShloMosaic.Ideal S16000x128 .f32) (v10 : FVec Idealize.ShloMosaic.Ideal S1x16000 .f32) (v12 : IVec S1x16000 32)
  (v14 : Elt Idealize.ShloMosaic.Ideal .i32)
  (v17 v75 : Vec Idealize.ShloMosaic.Ideal S256x1 .f32) (v81 : Vec Idealize.ShloMosaic.Ideal S256x128 .f32)

/-- A row's membership bit at place `k` of the window. -/
theorem window_mask (k : Fin 16) (p : Fin 16000) :
    k0_pay17 (F := Idealize.ShloMosaic.Ideal) v12 v14 (ix2 k p) = IntOp.cmpi CmpIPredicate.eq (IntOp.addi v14 (BitVec.ofNat 32 k)) (v12 (ix2 0 p)) := by
  pointwise [k0_pay17]

/-- The number saying whether segment `b` is place `k` of the window. -/
theorem window_place (b : Fin 256) (k : Fin 16) :
    k0_pay18 (F := Idealize.ShloMosaic.Ideal) v14 (ix2 b k) = FloatOps.sitofp (F := Idealize.ShloMosaic.Ideal) .f32 (BitVec.setWidth 32
      (IntOp.cmpi CmpIPredicate.eq (BitVec.ofNat 32 b) (IntOp.addi v14 (BitVec.ofNat 32 k)))) := by
  pointwise [k0_pay18]

/-- The block's largest score at place `k` of the window. -/
theorem window_largest (k : Fin 16) :
    k0_pay19 v10 v12 v14 (ix2 k 0) = Finset.fold max (Idealize.ShloMosaic.Ideal.ofBits FTy.f32 4286578688#32)
      (fun p => Scalar.select (k0_pay17 (F := Idealize.ShloMosaic.Ideal) v12 v14 (ix2 k p)) (v10 (ix2 0 p)) (Idealize.ShloMosaic.Ideal.ofBits FTy.f32 4048155338#32)) Finset.univ := by
  pointwise [k0_pay19]

/-- The new maximum of segment `b`. -/
theorem window_max (b : Fin 256) :
    k0_pay20 v10 v12 v14 v17 (ix2 b 0) = max (v17 (ix2 b 0)) (Scalar.select
      (IntOp.andi (IntOp.cmpi CmpIPredicate.sge (BitVec.ofNat 32 b) v14) (IntOp.cmpi CmpIPredicate.slt (BitVec.ofNat 32 b) (Scalar.addi v14 16#32)))
      (∑ k, k0_pay18 (F := Idealize.ShloMosaic.Ideal) v14 (ix2 b k) * k0_pay19 v10 v12 v14 (ix2 k 0)) (Idealize.ShloMosaic.Ideal.ofBits FTy.f32 4048155338#32)) := by
  pointwise [k0_pay20]

/-- The stored maximum is the new maximum. -/
theorem window_stored (x : FVec Idealize.ShloMosaic.Ideal S256x1 .f32) (b : Fin 256) : k0_pay6 x (ix2 b 0) = x (ix2 b 0) := by
  pointwise [k0_pay6]

/-- The factor segment `b`'s old state is rescaled by. -/
theorem window_factor (b : Fin 256) :
    k0_pay21 v10 v12 v14 v17 (ix2 b 0) = Idealize.ShloMosaic.Ideal.exp (v17 (ix2 b 0) - k0_pay20 v10 v12 v14 v17 (ix2 b 0)) := by
  pointwise [k0_pay21]

/-- The weight of row `p` at place `k` of the window. -/
theorem window_weight (k : Fin 16) (p : Fin 16000) :
    k0_pay22 v10 v12 v14 v17 (ix2 k p) = FloatOps.sitofp (F := Idealize.ShloMosaic.Ideal) .f32 (BitVec.setWidth 32 (k0_pay17 (F := Idealize.ShloMosaic.Ideal) v12 v14 (ix2 k p))) *
      Idealize.ShloMosaic.Ideal.exp (v10 (ix2 0 p) - ∑ x : Fin 16, max (k0_pay19 v10 v12 v14 (ix2 x 0))
        (∑ b : Fin 256, k0_pay18 (F := Idealize.ShloMosaic.Ideal) v14 (ix2 b x) * v17 (ix2 b 0)) *
        FloatOps.sitofp (F := Idealize.ShloMosaic.Ideal) .f32 (BitVec.setWidth 32 (k0_pay17 (F := Idealize.ShloMosaic.Ideal) v12 v14 (ix2 x p)))) := by
  pointwise [k0_pay22]

/-- The block's share of segment `b`'s denominator. -/
theorem window_denominator (b : Fin 256) :
    k0_pay23 v10 v12 v14 v17 (ix2 b 0) = ∑ k, k0_pay18 (F := Idealize.ShloMosaic.Ideal) v14 (ix2 b k) * ∑ p, k0_pay22 v10 v12 v14 v17 (ix2 k p) := by
  pointwise [k0_pay23]

/-- The block's share of segment `b`'s weighted row. -/
theorem window_rows (b : Fin 256) (h : Fin 128) :
    k0_pay24 v3 v10 v12 v14 v17 (ix2 b h) =
      ∑ k, k0_pay18 (F := Idealize.ShloMosaic.Ideal) v14 (ix2 b k) * ∑ p, k0_pay22 v10 v12 v14 v17 (ix2 k p) * v3 (ix2 p h) := by
  pointwise [k0_pay24]

/-- The stored denominator. -/
theorem window_denominator_stored (u v : FVec Idealize.ShloMosaic.Ideal S256x1 .f32) (b : Fin 256) :
    k0_pay7 u v v75 (ix2 b 0) = v75 (ix2 b 0) * u (ix2 b 0) + v (ix2 b 0) := by
  pointwise [k0_pay7]

/-- The stored weighted row. -/
theorem window_rows_stored (u : FVec Idealize.ShloMosaic.Ideal S256x1 .f32) (v : FVec Idealize.ShloMosaic.Ideal S256x128 .f32) (b : Fin 256) (h : Fin 128) :
    k0_pay8 u v v81 (ix2 b h) = v81 (ix2 b h) * u (ix2 b 0) + v (ix2 b h) := by
  pointwise [k0_pay8]

/-- The window path takes one online-softmax step, where every row's segment lies in the window. -/
theorem window_stepped (s : Fin 16000 → ℝ) (X : Fin 16000 → Fin 128 → ℝ) (g : Fin 16000 → Fin 256) (M : Fin 256 → ℝ) (f : ℕ) (hf : f < 256)
    (h3 : ∀ p j, v3 (ix2 p j) = ((X p j : ℝ) : EReal)) (h10 : ∀ p, v10 (ix2 0 p) = ((s p : ℝ) : EReal))
    (h12 : ∀ p, v12 (ix2 0 p) = BitVec.ofNat 32 (g p)) (h14 : v14 = BitVec.ofNat 32 f)
    (h17 : ∀ b, v17 (ix2 b 0) = ((M b : ℝ) : EReal)) (hin : ∀ p, f ≤ (g p : ℕ) ∧ (g p : ℕ) < f + 16) :
    Stepped s g X M v75 (k0_pay6 (k0_pay20 v10 v12 v14 v17)) (k0_pay7 (k0_pay21 v10 v12 v14 v17) (k0_pay23 v10 v12 v14 v17) v75)
      v81 (k0_pay8 (k0_pay21 v10 v12 v14 v17) (k0_pay24 v3 v10 v12 v14 v17) v81) := by
  subst h14
  have hm : ∀ (k : Fin 16) (p : Fin 16000), k0_pay17 (F := Idealize.ShloMosaic.Ideal) v12 (BitVec.ofNat 32 f) (ix2 k p) = 1#1 ↔ f + (k : ℕ) = g p := fun k p => by
    rw [window_mask, h12, addi_ofNat, cmpi_eq_one (by omega) (by omega)]
  have hq : ∀ (b : Fin 256) (k : Fin 16), IntOp.cmpi CmpIPredicate.eq (BitVec.ofNat 32 b) (IntOp.addi (BitVec.ofNat 32 f) (BitVec.ofNat 32 k)) = 1#1
      ↔ (b : ℕ) = f + k := fun b k => by
    rw [addi_ofNat, cmpi_eq_one (by omega) (by omega)]
  have hlargest : ∀ k : Fin 16, ∃ x : ℝ, k0_pay19 v10 v12 (BitVec.ofNat 32 f) (ix2 k 0) = (x : EReal) := fun k => by
    rw [window_largest]
    exact fold_select_real _ _ fun p => ⟨_, h10 p⟩
  choose w hw using hlargest
  have hpick : ∀ b : Fin 256, ∑ k, k0_pay18 (F := Idealize.ShloMosaic.Ideal) (BitVec.ofNat 32 f) (ix2 b k) * k0_pay19 v10 v12 (BitVec.ofNat 32 f) (ix2 k 0) =
      ((∑ k : Fin 16, if (b : ℕ) = f + k then w k else 0 : ℝ) : EReal) := fun b => by
    rw [coe_sum]
    refine Finset.sum_congr rfl fun k _ => ?_
    rw [window_place, hw, bit_mul _ _ (hq b k)]
  have hmax : ∀ b : Fin 256, ∃ x : ℝ, k0_pay20 v10 v12 (BitVec.ofNat 32 f) v17 (ix2 b 0) = (x : EReal) ∧
      ∀ k : Fin 16, (b : ℕ) = f + k → x = max (M b) (w k) := fun b => by
    obtain ⟨r, hr⟩ := bits_low
    rw [window_max, hpick, h17, hr]
    unfold Scalar.select
    split
    · refine ⟨_, (coe_max _ _).symm, fun k hk => ?_⟩
      congr 1
      rw [Finset.sum_eq_single k]
      · rw [if_pos hk]
      · intro j _ hj
        rw [if_neg]
        intro e
        exact hj (Fin.ext (by omega))
      · intro h
        exact absurd (Finset.mem_univ _) h
    · rename_i hc
      refine ⟨_, (coe_max _ _).symm, fun k hk => absurd ?_ hc⟩
      have e16 : Scalar.addi (BitVec.ofNat 32 f) 16#32 = BitVec.ofNat 32 (f + 16) := addi_ofNat f 16
      rw [e16]
      have h1 : IntOp.cmpi CmpIPredicate.sge (BitVec.ofNat 32 (b : ℕ)) (BitVec.ofNat 32 f) = 1#1 := by
        word_cmp
      have h2 : IntOp.cmpi CmpIPredicate.slt (BitVec.ofNat 32 (b : ℕ)) (BitVec.ofNat 32 (f + 16)) = 1#1 := by
        word_cmp
      rw [h1, h2]
      rfl
  choose M' hM' hMk using hmax
  have hw' : ∀ (k : Fin 16) (p : Fin 16000), k0_pay22 v10 v12 (BitVec.ofNat 32 f) v17 (ix2 k p) =
      ((if f + (k : ℕ) = g p then Real.exp (s p - M' (g p)) else 0 : ℝ) : EReal) := fun k p => by
    have e : ∑ x : Fin 16, max (k0_pay19 v10 v12 (BitVec.ofNat 32 f) (ix2 x 0))
        (∑ b : Fin 256, k0_pay18 (F := Idealize.ShloMosaic.Ideal) (BitVec.ofNat 32 f) (ix2 b x) * v17 (ix2 b 0)) *
        FloatOps.sitofp (F := Idealize.ShloMosaic.Ideal) .f32 (BitVec.setWidth 32 (k0_pay17 (F := Idealize.ShloMosaic.Ideal) v12 (BitVec.ofNat 32 f) (ix2 x p))) =
          ((M' (g p) : ℝ) : EReal) := by
      have hx : ∀ x : Fin 16, max (k0_pay19 v10 v12 (BitVec.ofNat 32 f) (ix2 x 0))
          (∑ b : Fin 256, k0_pay18 (F := Idealize.ShloMosaic.Ideal) (BitVec.ofNat 32 f) (ix2 b x) * v17 (ix2 b 0)) *
          FloatOps.sitofp (F := Idealize.ShloMosaic.Ideal) .f32 (BitVec.setWidth 32 (k0_pay17 (F := Idealize.ShloMosaic.Ideal) v12 (BitVec.ofNat 32 f) (ix2 x p))) =
          ((if f + (x : ℕ) = g p then M' (g p) else 0 : ℝ) : EReal) := fun x => by
        have hs : ∑ b : Fin 256, k0_pay18 (F := Idealize.ShloMosaic.Ideal) (BitVec.ofNat 32 f) (ix2 b x) * v17 (ix2 b 0) =
            ((∑ b : Fin 256, if (b : ℕ) = f + x then M b else 0 : ℝ) : EReal) := by
          rw [coe_sum]
          refine Finset.sum_congr rfl fun b _ => ?_
          rw [window_place, h17, bit_mul _ _ (hq b x)]
        rw [hs, hw, ← coe_max, mul_comm, bit_mul _ _ (hm x p)]
        congr 1
        by_cases hg : f + (x : ℕ) = g p
        · rw [if_pos hg, if_pos hg, hMk (g p) x hg.symm, max_comm]
          congr 1
          rw [Finset.sum_eq_single (g p)]
          · rw [if_pos hg.symm]
          · intro b _ hb
            rw [if_neg]
            intro e
            exact hb (Fin.ext (by omega))
          · intro h
            exact absurd (Finset.mem_univ _) h
        · rw [if_neg hg, if_neg hg]
      rw [Finset.sum_congr rfl fun x _ => hx x, ← coe_sum]
      congr 1
      have hp := hin p
      rw [Finset.sum_eq_single (⟨g p - f, by omega⟩ : Fin 16)]
      · rw [if_pos]
        change f + ((g p : ℕ) - f) = g p
        omega
      · intro x _ hx
        rw [if_neg]
        intro e
        exact hx (Fin.ext (by change (x : ℕ) = g p - f; omega))
      · intro h
        exact absurd (Finset.mem_univ _) h
    rw [window_weight, e, h10, ← EReal.coe_sub, Idealize.ShloMosaic.Ideal.exp_coe, bit_mul _ _ (hm k p)]
  have hfac : ∀ b, k0_pay21 v10 v12 (BitVec.ofNat 32 f) v17 (ix2 b 0) = ((Real.exp (M b - M' b) : ℝ) : EReal) := fun b => by
    rw [window_factor, h17, hM', ← EReal.coe_sub, Idealize.ShloMosaic.Ideal.exp_coe]
  have hshare : ∀ (E : Fin 16000 → ℝ) (F : Fin 16 → Fin 16000 → EReal)
      (_ : ∀ k p, F k p = ((if f + (k : ℕ) = g p then E p else 0 : ℝ) : EReal)) (b : Fin 256),
      ∑ k, k0_pay18 (F := Idealize.ShloMosaic.Ideal) (BitVec.ofNat 32 f) (ix2 b k) * ∑ p, F k p = ((∑ p, if g p = b then E p else 0 : ℝ) : EReal) := by
    intro E F hF b
    rw [← window_sum f g hin E b, coe_sum]
    refine Finset.sum_congr rfl fun k _ => ?_
    rw [Finset.sum_congr rfl fun p _ => hF k p, ← coe_sum, window_place, bit_mul _ _ (hq b k)]
  refine ⟨M', fun b => by rw [window_stored, hM'], fun b D hD => ?_, fun b h A hA => ?_⟩
  · rw [window_denominator_stored, hD, hfac, window_denominator, hshare (fun p => Real.exp (s p - M' (g p))) _ hw', ← EReal.coe_mul, ← EReal.coe_add]
    congr 2
    refine Finset.sum_congr rfl fun p _ => ?_
    by_cases hb : g p = b
    · simp [hb]
    · simp [hb]
  · have hF : ∀ (k : Fin 16) (p : Fin 16000), k0_pay22 v10 v12 (BitVec.ofNat 32 f) v17 (ix2 k p) * v3 (ix2 p h) =
        ((if f + (k : ℕ) = g p then Real.exp (s p - M' (g p)) * X p h else 0 : ℝ) : EReal) := fun k p => by
      rw [hw', h3, ← EReal.coe_mul]
      congr 1
      split <;> simp
    rw [window_rows_stored, hA, hfac, window_rows, hshare (fun p => Real.exp (s p - M' (g p)) * X p h) _ hF, ← EReal.coe_mul, ← EReal.coe_add]
    congr 2
    refine Finset.sum_congr rfl fun p _ => ?_
    by_cases hb : g p = b
    · simp [hb]
    · simp [hb]

end Values

end Cert.Pool

end
-- ==== Proof.PointStep.lean ====
/-
What one grid point does to the running state, whichever of its two paths it takes, and which path
it takes: the window path when the block's segment numbers span fewer than sixteen.
-/
module
public import proofs.«01_k».proof.Proof.Entry
public import proofs.«01_k».proof.Proof.Inputs
public import proofs.«01_k».proof.Proof.Running
public import proofs.«01_k».proof.Proof.BlockFull
public import proofs.«01_k».proof.Proof.BlockWindow
@[expose] public section
noncomputable section
namespace Cert.Pool
open Idealize.ShloMosaic Idealize.SL.Sem Cert.KernelIdeal Cert.KernelIdeal.Gen
set_option maxRecDepth 16384

/-- The window condition on a span below 256. -/
theorem window_cond (i : grid0.Coords) (k : ℕ) (hk : k < 256) : cond0_1 i (BitVec.ofNat 32 k) ↔ k < 16 := by
  have h : ∀ k : Fin 256, (Scalar.cmpi .ne (Scalar.extui (Scalar.cmpi .slt (BitVec.ofNat 32 k.val) 16#32)) 0#32 : BitVec 1) = 1#1 ↔ k.val < 16 := by
    decide +kernel
  exact h ⟨k, hk⟩

/-- The full condition on a span below 256. -/
theorem full_cond (i : grid0.Coords) (k : ℕ) (hk : k < 256) : cond0_2 i (BitVec.ofNat 32 k) ↔ ¬k < 16 := by
  have h : ∀ k : Fin 256, (Scalar.cmpi .ne (Scalar.extui (Scalar.cmpi .sge (BitVec.ofNat 32 k.val) 16#32)) 0#32 : BitVec 1) = 1#1 ↔ ¬k.val < 16 := by
    decide +kernel
  exact h ⟨k, hk⟩

/-- The difference of two words below 256 in order, held at most 256, is the word of the difference. -/
theorem span_value (a b : ℕ) (hab : a ≤ b) (hb : b < 256) :
    IntOp.minsi (IntOp.subi (BitVec.ofNat 32 b) (BitVec.ofNat 32 a)) 256#32 = BitVec.ofNat 32 (b - a) := by
  have e : IntOp.subi (BitVec.ofNat 32 b) (BitVec.ofNat 32 a) = BitVec.ofNat 32 (b - a) := by
    unfold IntOp.subi
    apply BitVec.eq_of_toNat_eq
    simp only [BitVec.toNat_sub, BitVec.toNat_ofNat]
    omega
  rw [e]
  have h : ∀ k : Fin 256, IntOp.minsi (BitVec.ofNat 32 k.val) 256#32 = BitVec.ofNat 32 k.val := by decide +kernel
  exact h ⟨b - a, by omega⟩

variable (m : (ℓ : Loc nD τ sig) → Buf (Elt Idealize.ShloMosaic.Ideal) ℓ)
variable (X : Fin 320000 → Fin 128 → ℝ) (g : Fin 320000 → Fin 256) (W : Fin 128 → Fin 128 → ℝ) (ws : Fin 128 → ℝ) (β : ℝ)

/-- The six arguments of the kernel's launch are the real arrays. -/
abbrev Args : Prop :=
  Drawn (m ((0 : Dev nD).tc.loc main_arg0)) (m ((0 : Dev nD).tc.loc main_arg1))
    (m ((0 : Dev nD).tc.loc main_arg2)) (m ((0 : Dev nD).tc.loc main_arg3))
    (m ((0 : Dev nD).tc.loc main_arg4)) (m ((0 : Dev nD).tc.loc main_arg5)) X g W ws β

variable {m X g W ws β}

/-- The number of a block's first row. -/
theorem row_lt (t : Fin grid0.N) (p : ℕ) (hp : p < 16000) : 16000 * t.val + p < 320000 := by
  have := point_lt t
  omega

/-- The span word of a point is its block's last segment number less its first. -/
theorem span_at (hA : Args m X g W ws β) (t : Fin grid0.N) :
    spanWord 0 (grid0.coords t) (tbl m 0) = BitVec.ofNat 32
      ((g ⟨16000 * t.val + 15999, row_lt t 15999 (by decide)⟩).val - (g ⟨16000 * t.val, row_lt t 0 (by decide)⟩).val) := by
  refine (span_word 0 t _).trans ?_
  refine (entry_span m 0 ⟨t.val, point_lt t⟩ (row_lt t 0 (by decide)) (row_lt t 15999 (by decide))).trans ?_
  rw [← span_value _ _ (hA.mono _ _ (by simp)) (g _).isLt]
  exact congrArg₂ (fun u v => IntOp.minsi (IntOp.subi u v) 256#32) (hA.seg _) (hA.seg _)

/-- The first-segment word of a point is its block's first segment number. -/
theorem first_at (hA : Args m X g W ws β) (t : Fin grid0.N) :
    firstWord 0 (grid0.coords t) (tbl m 0) = BitVec.ofNat 32 (g ⟨16000 * t.val, row_lt t 0 (by decide)⟩).val := by
  refine (first_word 0 t _).trans ?_
  refine (entry_first m 0 ⟨t.val, point_lt t⟩ (row_lt t 0 (by decide))).trans ?_
  exact hA.seg _

/-- The segment number of every row, as the body reads it. -/
theorem seg_at (hO : Ok m) (hA : Args m X g W ws β) (t : Fin (cfgM m hO).N) (p : Fin 16000) :
    iblk m hO 0 1 t (ix3 0 0 p) = BitVec.ofNat 32 (g ⟨16000 * t.val + p.val, row_lt t p.val p.isLt⟩).val :=
  (seg_block m hO 0 t p (row_lt t p.val p.isLt)).trans (hA.seg _)

/-- Every row, as the body reads it. -/
theorem rows_at (hO : Ok m) (hA : Args m X g W ws β) (t : Fin (cfgM m hO).N) (p : Fin 16000) (j : Fin 128) :
    iblk m hO 0 0 t (ix2 p j) = ((X ⟨16000 * t.val + p.val, row_lt t p.val p.isLt⟩ j : ℝ) : EReal) :=
  (rows_block m hO 0 t p j (row_lt t p.val p.isLt)).trans (hA.rows _ _)

/-- The attention matrix, as the body reads it. -/
theorem att_at (hO : Ok m) (hA : Args m X g W ws β) (t : Fin (cfgM m hO).N) (k j : Fin 128) :
    iblk m hO 0 2 t (ix2 k j) = ((W k j : ℝ) : EReal) :=
  (att_block m hO 0 t k j).trans (hA.att _ _)

/-- The score weights, as the body reads them. -/
theorem weights_at (hO : Ok m) (hA : Args m X g W ws β) (t : Fin (cfgM m hO).N) (j : Fin 128) :
    iblk m hO 0 3 t (ix2 0 j) = ((ws j : ℝ) : EReal) :=
  (weights_block m hO 0 t j).trans (hA.weights _)

/-- The full path of point `t` moves the state on by the point's rows. -/
theorem full_point (hO : Ok m) (hA : Args m X g W ws β) (t : Fin (cfgM m hO).N)
    (mx d : Vec Idealize.ShloMosaic.Ideal S256x1 .f32) (a : Vec Idealize.ShloMosaic.Ideal S256x128 .f32)
    (hH : Holds X g (fun r => score W ws (X r)) (16000 * t.val) mx d a) :
    Holds X g (fun r => score W ws (X r)) (16000 * t.val + 16000)
      (k0_pay13 (iblk m hO 0 0 t) (iblk m hO 0 2 t) (iblk m hO 0 3 t) (iblk m hO 0 1 t) mx)
      (k0_pay14 (iblk m hO 0 0 t) (iblk m hO 0 2 t) (iblk m hO 0 3 t) (iblk m hO 0 1 t) mx d)
      (k0_pay15 (iblk m hO 0 0 t) (iblk m hO 0 2 t) (iblk m hO 0 3 t) (iblk m hO 0 1 t) mx a) := by
  have hn : 16000 * t.val + 16000 ≤ 320000 := row_lt t 15999 (by decide)
  refine holds_step X g _ _ hn _ _ _ _ _ _ (fun M hM => ?_) hH
  exact full_stepped _ _ _ _ _ _ _ (fun p => X ⟨16000 * t.val + p.val, by omega⟩) W ws (fun p => g ⟨16000 * t.val + p.val, by omega⟩) M
    (rows_at hO hA t) (att_at hO hA t) (weights_at hO hA t) (seg_at hO hA t) hM

/-- The window path of point `t` moves the state on by the point's rows. -/
theorem window_point (hO : Ok m) (hA : Args m X g W ws β) (t : Fin (cfgM m hO).N)
    (hw : (g ⟨16000 * t.val + 15999, row_lt t 15999 (by decide)⟩).val - (g ⟨16000 * t.val, row_lt t 0 (by decide)⟩).val < 16)
    (mx d : Vec Idealize.ShloMosaic.Ideal S256x1 .f32) (a : Vec Idealize.ShloMosaic.Ideal S256x128 .f32)
    (hH : Holds X g (fun r => score W ws (X r)) (16000 * t.val) mx d a) :
    Holds X g (fun r => score W ws (X r)) (16000 * t.val + 16000)
      (k0_pay6 (k0_pay20 (k0_pay4 (iblk m hO 0 0 t) (iblk m hO 0 2 t) (iblk m hO 0 3 t)) (k0_pay5 (F := Idealize.ShloMosaic.Ideal) (iblk m hO 0 1 t)) (firstWord 0 (grid0.coords t) (tbl m 0)) mx))
      (k0_pay7 (k0_pay21 (k0_pay4 (iblk m hO 0 0 t) (iblk m hO 0 2 t) (iblk m hO 0 3 t)) (k0_pay5 (F := Idealize.ShloMosaic.Ideal) (iblk m hO 0 1 t)) (firstWord 0 (grid0.coords t) (tbl m 0)) mx)
        (k0_pay23 (k0_pay4 (iblk m hO 0 0 t) (iblk m hO 0 2 t) (iblk m hO 0 3 t)) (k0_pay5 (F := Idealize.ShloMosaic.Ideal) (iblk m hO 0 1 t)) (firstWord 0 (grid0.coords t) (tbl m 0)) mx) d)
      (k0_pay8 (k0_pay21 (k0_pay4 (iblk m hO 0 0 t) (iblk m hO 0 2 t) (iblk m hO 0 3 t)) (k0_pay5 (F := Idealize.ShloMosaic.Ideal) (iblk m hO 0 1 t)) (firstWord 0 (grid0.coords t) (tbl m 0)) mx)
        (k0_pay24 (iblk m hO 0 0 t) (k0_pay4 (iblk m hO 0 0 t) (iblk m hO 0 2 t) (iblk m hO 0 3 t)) (k0_pay5 (F := Idealize.ShloMosaic.Ideal) (iblk m hO 0 1 t)) (firstWord 0 (grid0.coords t) (tbl m 0)) mx) a) := by
  have hn : 16000 * t.val + 16000 ≤ 320000 := row_lt t 15999 (by decide)
  refine holds_step X g _ _ hn _ _ _ _ _ _ (fun M hM => ?_) hH
  refine window_stepped _ _ _ _ _ _ _ (fun p => score W ws (X ⟨16000 * t.val + p.val, by omega⟩)) (fun p => X ⟨16000 * t.val + p.val, by omega⟩)
    (fun p => g ⟨16000 * t.val + p.val, by omega⟩) M _ (g ⟨16000 * t.val, row_lt t 0 (by decide)⟩).isLt
    (rows_at hO hA t) ?_ ?_ (first_at hA t) hM ?_
  · exact score_block _ W ws _ _ _ (rows_at hO hA t) (att_at hO hA t) (weights_at hO hA t)
  · intro p
    refine Eq.trans ?_ (seg_at hO hA t p)
    pointwise [k0_pay5]
  · intro p
    have h1 := hA.mono ⟨16000 * t.val, row_lt t 0 (by decide)⟩ ⟨16000 * t.val + p.val, by omega⟩ (by simp)
    have h2 := hA.mono ⟨16000 * t.val + p.val, by omega⟩ ⟨16000 * t.val + 15999, row_lt t 15999 (by decide)⟩ (by simp; omega)
    exact ⟨h1, by omega⟩

end Cert.Pool
end
-- ==== Proof.Points.lean ====
/-
The state after every grid point, and the output block after the last one.
-/
module
public import proofs.«01_k».proof.Proof.PointStep
@[expose] public section
noncomputable section
namespace Cert.Pool
open Idealize.ShloMosaic Idealize.SL.Sem Cert.KernelIdeal Cert.KernelIdeal.Gen
set_option maxRecDepth 16384
set_option maxHeartbeats 2000000

attribute [local irreducible] outsAt0

variable {m : (ℓ : Loc nD τ sig) → Buf (Elt Idealize.ShloMosaic.Ideal) ℓ}
variable {X : Fin 320000 → Fin 128 → ℝ} {g : Fin 320000 → Fin 256} {W : Fin 128 → Fin 128 → ℝ} {ws : Fin 128 → ℝ} {β : ℝ}

/-- The block of point `t` spans fewer than sixteen segments. -/
abbrev Narrow (g : Fin 320000 → Fin 256) (t : Fin grid0.N) : Prop :=
  (g ⟨16000 * t.val + 15999, row_lt t 15999 (by decide)⟩).val - (g ⟨16000 * t.val, row_lt t 0 (by decide)⟩).val < 16

/-- The window condition holds at a point exactly where its block is narrow. -/
theorem window_iff (hA : Args m X g W ws β) (t : Fin grid0.N) :
    cond0_1 (grid0.coords t) (spanWord 0 (grid0.coords t) (tbl m 0)) ↔ Narrow g t := by
  have h := window_cond (grid0.coords t) _ (lt_of_le_of_lt (Nat.sub_le _ _)
    (g ⟨16000 * t.val + 15999, row_lt t 15999 (by decide)⟩).isLt : _ - (g ⟨16000 * t.val, row_lt t 0 (by decide)⟩).val < 256)
  rw [← span_at hA t] at h
  exact h

/-- The full condition holds at a point exactly where its block is not narrow. -/
theorem full_iff (hA : Args m X g W ws β) (t : Fin grid0.N) :
    cond0_2 (grid0.coords t) (spanWord 0 (grid0.coords t) (tbl m 0)) ↔ ¬Narrow g t := by
  have h := full_cond (grid0.coords t) _ (lt_of_le_of_lt (Nat.sub_le _ _)
    (g ⟨16000 * t.val + 15999, row_lt t 15999 (by decide)⟩).isLt : _ - (g ⟨16000 * t.val, row_lt t 0 (by decide)⟩).val < 256)
  rw [← span_at hA t] at h
  exact h

/-- The first point leaves the state after its rows. -/
theorem first_point (hO : Ok m) (hA : Args m X g W ws β) (t : Fin (cfgM m hO).N) (ht : t.val = 0) :
    Holds X g (fun r => score W ws (X r)) (16000 * t.val + 16000)
      (outsAt0 m hO 0 t.val t.isLt).2.1 (outsAt0 m hO 0 t.val t.isLt).2.2.1 (outsAt0 m hO 0 t.val t.isLt).2.2.2 := by
  have hs : Holds X g (fun r => score W ws (X r)) (16000 * t.val) (k0_pay1 (F := Idealize.ShloMosaic.Ideal))
      (k0_pay2 (F := Idealize.ShloMosaic.Ideal)) (k0_pay3 (F := Idealize.ShloMosaic.Ideal)) := by
    rw [ht]
    exact holds_start _ _ _
  by_cases hw : Narrow g t
  · have h1 := ((window_iff hA t).mpr hw)
    have h2 := fun h => (full_iff hA t).mp h hw
    have h0 : t.val % 20 = 0 := by omega
    have h3 : ¬t.val % 20 = 19 := by omega
    have e := outsAt0_B m hO 0 t h0 h1 h2 h3
    have e0 : (outsAt0 m hO 0 t.val t.isLt).2.1 = _ := (congrArg (fun q => q.2.1) e).trans (first_window_0 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    have e1 : (outsAt0 m hO 0 t.val t.isLt).2.2.1 = _ := (congrArg (fun q => q.2.2.1) e).trans (first_window_1 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    have e2 : (outsAt0 m hO 0 t.val t.isLt).2.2.2 = _ := (congrArg (fun q => q.2.2.2) e).trans (first_window_2 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    rw [e0, e1, e2]
    exact window_point hO hA t hw _ _ _ hs
  · have h1 := fun h => hw ((window_iff hA t).mp h)
    have h2 := ((full_iff hA t).mpr hw)
    have h0 : t.val % 20 = 0 := by omega
    have h3 : ¬t.val % 20 = 19 := by omega
    have e := outsAt0_C m hO 0 t h0 h1 h2 h3
    have e0 : (outsAt0 m hO 0 t.val t.isLt).2.1 = _ := (congrArg (fun q => q.2.1) e).trans (first_full_0 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    have e1 : (outsAt0 m hO 0 t.val t.isLt).2.2.1 = _ := (congrArg (fun q => q.2.2.1) e).trans (first_full_1 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    have e2 : (outsAt0 m hO 0 t.val t.isLt).2.2.2 = _ := (congrArg (fun q => q.2.2.2) e).trans (first_full_2 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0) ((hcond0_0 t).mpr h0) (fun h => h3 ((hcond0_3 t).mp h)) h1 h2)
    rw [e0, e1, e2]
    exact full_point hO hA t _ _ _ hs

/-- A middle point moves the state the point before left on by its rows. -/
theorem middle_point (hO : Ok m) (hA : Args m X g W ws β) (t : Fin (cfgM m hO).N) (h0 : ¬t.val % 20 = 0) (h3 : ¬t.val % 20 = 19)
    (hs : Holds X g (fun r => score W ws (X r)) (16000 * t.val)
      (outsAt0 m hO 0 (t.val - 1) (Nat.lt_of_le_of_lt (Nat.sub_le _ _) t.isLt)).2.1
      (outsAt0 m hO 0 (t.val - 1) (Nat.lt_of_le_of_lt (Nat.sub_le _ _) t.isLt)).2.2.1
      (outsAt0 m hO 0 (t.val - 1) (Nat.lt_of_le_of_lt (Nat.sub_le _ _) t.isLt)).2.2.2) :
    Holds X g (fun r => score W ws (X r)) (16000 * t.val + 16000)
      (outsAt0 m hO 0 t.val t.isLt).2.1 (outsAt0 m hO 0 t.val t.isLt).2.2.1 (outsAt0 m hO 0 t.val t.isLt).2.2.2 := by
  by_cases hw : Narrow g t
  · have h1 := ((window_iff hA t).mpr hw)
    have h2 := fun h => (full_iff hA t).mp h hw
    have e := outsAt0_F m hO 0 t h0 h1 h2 h3
    have e0 : (outsAt0 m hO 0 t.val t.isLt).2.1 = _ := (congrArg (fun q => q.2.1) e).trans (middle_window_0 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    have e1 : (outsAt0 m hO 0 t.val t.isLt).2.2.1 = _ := (congrArg (fun q => q.2.2.1) e).trans (middle_window_1 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    have e2 : (outsAt0 m hO 0 t.val t.isLt).2.2.2 = _ := (congrArg (fun q => q.2.2.2) e).trans (middle_window_2 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    rw [e0, e1, e2]
    exact window_point hO hA t hw _ _ _ hs
  · have h1 := fun h => hw ((window_iff hA t).mp h)
    have h2 := ((full_iff hA t).mpr hw)
    have e := outsAt0_G m hO 0 t h0 h1 h2 h3
    have e0 : (outsAt0 m hO 0 t.val t.isLt).2.1 = _ := (congrArg (fun q => q.2.1) e).trans (middle_full_0 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    have e1 : (outsAt0 m hO 0 t.val t.isLt).2.2.1 = _ := (congrArg (fun q => q.2.2.1) e).trans (middle_full_1 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    have e2 : (outsAt0 m hO 0 t.val t.isLt).2.2.2 = _ := (congrArg (fun q => q.2.2.2) e).trans (middle_full_2 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) (fun h => h3 ((hcond0_3 t).mp h)) h1 h2)
    rw [e0, e1, e2]
    exact full_point hO hA t _ _ _ hs

/-- After every point but the last the scratch arrays hold the state after the rows so far. -/
theorem after_point (hO : Ok m) (hA : Args m X g W ws β) : ∀ (n : ℕ) (h : n < (cfgM m hO).N), n < 19 →
    Holds X g (fun r => score W ws (X r)) (16000 * n + 16000)
      (outsAt0 m hO 0 n h).2.1 (outsAt0 m hO 0 n h).2.2.1 (outsAt0 m hO 0 n h).2.2.2 := by
  intro n
  induction n with
  | zero => exact fun h _ => first_point hO hA ⟨0, h⟩ rfl
  | succ n ih =>
    intro h hn
    have h0 : ¬(n + 1) % 20 = 0 := by omega
    have h3 : ¬(n + 1) % 20 = 19 := by omega
    exact middle_point hO hA ⟨n + 1, h⟩ h0 h3 (ih (Nat.lt_of_succ_lt h) (Nat.lt_of_succ_lt hn))

/-- The output block after the last point is the pooled rows. -/
theorem last_point (hO : Ok m) (hA : Args m X g W ws β) (t : Fin (cfgM m hO).N) (ht : t.val = 19) (b : Fin 256) (h : Fin 128) :
    (outsAt0 m hO 0 t.val t.isLt).1 (ix2 b h) = ((pooled (fun r => score W ws (X r)) g (fun r => X r h) b : ℝ) : EReal) := by
  have hs := after_point hO hA (t.val - 1) (Nat.lt_of_le_of_lt (Nat.sub_le _ _) t.isLt) (by omega)
  rw [show 16000 * (t.val - 1) + 16000 = 16000 * t.val by omega] at hs
  have hl : 16000 * t.val + 16000 = 320000 := by omega
  by_cases hw : Narrow g t
  · have h1 := ((window_iff hA t).mpr hw)
    have h2 := fun h => (full_iff hA t).mp h hw
    have h0 : ¬t.val % 20 = 0 := by omega
    have h3 : t.val % 20 = 19 := by omega
    have e := outsAt0_J m hO 0 t h0 h1 h2 h3
    have e0 : (outsAt0 m hO 0 t.val t.isLt).1 = _ := (congrArg (fun q => q.1) e).trans (last_window_output 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) ((hcond0_3 t).mpr h3) h1 h2)
    rw [e0]
    exact holds_end X g _ _ _ _ (hl ▸ window_point hO hA t hw _ _ _ hs) b h
  · have h1 := fun h => hw ((window_iff hA t).mp h)
    have h2 := ((full_iff hA t).mpr hw)
    have h0 : ¬t.val % 20 = 0 := by omega
    have h3 : t.val % 20 = 19 := by omega
    have e := outsAt0_K m hO 0 t h0 h1 h2 h3
    have e0 : (outsAt0 m hO 0 t.val t.isLt).1 = _ := (congrArg (fun q => q.1) e).trans (last_full_output 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _)
      (iblk m hO 0 0 t) (iblk m hO 0 1 t) (iblk m hO 0 2 t) (iblk m hO 0 3 t) (tbl m 0)
      (outsAt0 m hO 0 (t.val - 1) (Nat.lt_of_le_of_lt (Nat.sub_le _ _) t.isLt)).2.1 (outsAt0 m hO 0 (t.val - 1) (Nat.lt_of_le_of_lt (Nat.sub_le _ _) t.isLt)).2.2.1 (outsAt0 m hO 0 (t.val - 1) (Nat.lt_of_le_of_lt (Nat.sub_le _ _) t.isLt)).2.2.2
      (fun h => h0 ((hcond0_0 t).mp h)) ((hcond0_3 t).mpr h3) h1 h2)
    rw [e0]
    exact holds_end X g _ _ _ _ (hl ▸ full_point hO hA t _ _ _ hs) b h

end Cert.Pool
end
-- ==== Proof.Result.lean ====
/-
The kernel's result array after a run: the pooled rows, the output block of the last point.
-/
module
public import proofs.«01_k».proof.Proof.Points
@[expose] public section
noncomputable section
namespace Cert.Pool
open Idealize.ShloMosaic Idealize.SL.Sem Cert.KernelIdeal Cert.KernelIdeal.Gen
set_option maxRecDepth 16384

attribute [local irreducible] outsAt0

variable {m : (ℓ : Loc nD τ sig) → Buf (Elt Idealize.ShloMosaic.Ideal) ℓ}
variable {X : Fin 320000 → Fin 128 → ℝ} {g : Fin 320000 → Fin 256} {W : Fin 128 → Fin 128 → ℝ} {ws : Fin 128 → ℝ} {β : ℝ}

/-- The pooled rows, as an array. -/
def pooledArray (X : Fin 320000 → Fin 128 → ℝ) (g : Fin 320000 → Fin 256) (W : Fin 128 → Fin 128 → ℝ) (ws : Fin 128 → ℝ) :
    Vec Idealize.ShloMosaic.Ideal S256x128 .f32 :=
  fun i => ((pooled (fun r => score W ws (X r)) g (fun r => X r ⟨(i 1).val, (i 1).isLt⟩) ⟨(i 0).val, (i 0).isLt⟩ : ℝ) : EReal)

/-- The last grid point. -/
def lastPoint (hO : Ok m) : Fin (cfgM m hO).N := ⟨19, Nat.lt_of_lt_of_eq (by decide) N_0.symm⟩

/-- The last point's output block is the pooled rows, at any index. -/
theorem last_block (hO : Ok m) (hA : Args m X g W ws β) (i : S256x128.Idx) :
    (outsAt0 m hO 0 (lastPoint hO).val (lastPoint hO).isLt).1 i = pooledArray X g W ws i := by
  obtain ⟨b, h, rfl⟩ : ∃ b h, i = ix2 b h := ⟨i 0, i 1, eq_ix2 i⟩
  exact last_point hO hA (lastPoint hO) rfl b h

/-- The output window is one block, written back once, at the last point. -/
theorem whole_at_last (hO : Ok m) : ((cfgM m hO).win 4).WholeAt (lastPoint hO) := by
  refine ⟨(flush0_4 _ _).mpr rfl, fun t h => Fin.ext ?_, fun a => ?_⟩
  · have h19 := (flush0_4 _ t).mp h
    have hlt := point_lt t
    change t.val = 19
    omega
  · match a with
    | ⟨0, _⟩ => exact ⟨rfl, rfl⟩
    | ⟨1, _⟩ => exact ⟨rfl, rfl⟩

/-- The output array after every point is the pooled rows. -/
theorem final_array (hO : Ok m) (hA : Args m X g W ws β) :
    (dats m hO 0 0).arrAt 4 (cfgM m hO).N = pooledArray X g W ws := by
  refine (dats m hO 0 0).arrAt_eq_of_after_last 4 (lastPoint hO) (whole_at_last hO) _ fun j => ?_
  blk_simp
  rw [after0_4]
  exact last_block hO hA _

/-- The kernel's run: its result array is the pooled rows and its arguments are unchanged. -/
theorem kernel_run (hO : Ok m) (hA : Args m X g W ws β) (ρ : Dev nD → PrngReg) :
    θ_run defs (onTc (τ := τ) (main (F := Idealize.ShloMosaic.Ideal))) ⟨m, fun _ => 0, ρ⟩ (fun r => ∀ c : Dev nD,
      r.2.mem ((c.tc : Thread nD τ).loc main_v10) = pooledArray X g W ws
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ hO) (unchanged m ρ hO))
  refine ⟨?_, h.2 c⟩
  obtain rfl : c = 0 := Subsingleton.elim c 0
  exact (h.1.out_eq 0 4).trans (final_array hO hA)

end Cert.Pool
end
-- ==== Proof.RefOps.lean ====
/-
The reference's gathers and scatters, read at an index: a gather takes the entry of the row's segment, a
scatter that adds gives each segment the sum of the updates of its rows.
-/
module
public import proofs.«01_k».proof.Proof.Words
public import proofs.«01_k».proof.Proof.Gen.ReferenceIdeal.Read
public import Idealize.ShloMosaic.Lib.Pointwise
public import Idealize.ShloMosaic.Lib.Routing.OpsPair
public import Idealize.ShloMosaic.Lib.StableHlo.Predicate
@[expose] public section
noncomputable section
namespace Cert.Pool
open Idealize.ShloMosaic Cert.ReferenceIdeal Cert.ReferenceIdeal.Gen
set_option maxRecDepth 16384

variable (g : Fin 320000 → Fin 256) (idx : IVec S320000x1 32)

/-- A word below 256, read signed. -/
theorem word_toInt (b : Fin 256) : (BitVec.ofNat 32 b.val).toInt = (b.val : Int) := by
  rw [BitVec.toInt_eq_toNat_of_lt (by rw [BitVec.toNat_ofNat]; omega), BitVec.toNat_ofNat, Nat.mod_eq_of_lt (by omega)]

/-- The gather at a row takes the entry of the row's segment. -/
theorem gather_at {α : Type} (hidx : ∀ r, idx (ix2 r 0) = BitVec.ofNat 32 (g r).val) (x : S256.Idx → α) (r : Fin 320000) :
    Host.gather gather_S256_S320000x1_S320000_n_0_n_n_0_1_1 x idx (ix1 r) = x (ix1 (g r)) := by
  have h := StableHlo.Predicate.gather_take gather_S256_S320000x1_S320000_n_0_n_n_0_1_1 rfl rfl rfl rfl x idx r (by decide)
  have e : (Shape.Idx.ofFin r : S320000.Idx) = ix1 r := by
    funext a; match a with | ⟨0, _⟩ => rfl
  rw [e] at h
  rw [h]
  have e2 : (StableHlo.Predicate.ixP r : S320000x1.Idx) = ix2 r 0 := by
    funext a; match a with | ⟨0, _⟩ => rfl | ⟨1, _⟩ => rfl
  congr 1
  funext a
  match a with
  | ⟨0, _⟩ =>
    refine Fin.ext ?_
    change min (idx (StableHlo.Predicate.ixP r)).toInt.toNat (256 - 1) = (g r).val
    rw [e2, hidx, word_toInt]
    omega

/-- Row `r`'s number lands at segment `b` exactly when `b` is its segment. -/
theorem lands_vec (hidx : ∀ r, idx (ix2 r 0) = BitVec.ofNat 32 (g r).val) (r : Fin 320000) (b : Fin 256) :
    scatter_S256_S320000x1_S320000_n_0_0_1.resultIdx? (ix1 r) idx = some (ix1 b) ↔ g r = b := by
  refine (Routing.resultIdx?_ix1 scatter_S256_S320000x1_S320000_n_0_0_1 (ix1 r) idx b).trans ?_
  have es : scatter_S256_S320000x1_S320000_n_0_0_1.start (ix1 r) idx 0 = (idx (ix2 r 0)).toInt := by
    change (idx _).toInt = _
    refine congrArg (fun k => (idx k).toInt) (funext fun a => ?_)
    match a with | ⟨0, _⟩ => rfl | ⟨1, _⟩ => rfl
  have ew : scatter_S256_S320000x1_S320000_n_0_0_1.window (ix1 r) 0 = 0 := rfl
  rw [es, ew, hidx, word_toInt]
  constructor
  · intro h; exact Fin.ext (by omega)
  · rintro rfl; simp

/-- Row `r`'s entry in column `k` lands at segment `b`, column `h`, exactly when `b` is its segment and `h` its column. -/
theorem lands_mat (hidx : ∀ r, idx (ix2 r 0) = BitVec.ofNat 32 (g r).val) (r : Fin 320000) (k : Fin 128) (b : Fin 256) (h : Fin 128) :
    scatter_S256x128_S320000x1_S320000x128_1_0_0_1.resultIdx? (ix2 r k) idx = some (ix2 b h) ↔ g r = b ∧ k = h := by
  refine (Routing.resultIdx?_ix2 scatter_S256x128_S320000x1_S320000x128_1_0_0_1 (ix2 r k) idx b h).trans ?_
  have es : scatter_S256x128_S320000x1_S320000x128_1_0_0_1.start (ix2 r k) idx 0 = (idx (ix2 r 0)).toInt := by
    change (idx _).toInt = _
    refine congrArg (fun k => (idx k).toInt) (funext fun a => ?_)
    match a with | ⟨0, _⟩ => rfl | ⟨1, _⟩ => rfl
  have ew : scatter_S256x128_S320000x1_S320000x128_1_0_0_1.window (ix2 r k) 0 = 0 := rfl
  have es' : scatter_S256x128_S320000x1_S320000x128_1_0_0_1.start (ix2 r k) idx 1 = 0 := rfl
  have ew' : scatter_S256x128_S320000x1_S320000x128_1_0_0_1.window (ix2 r k) 1 = k.val := rfl
  rw [es, ew, es', ew', hidx, word_toInt]
  constructor
  · intro q; exact ⟨Fin.ext (by omega), Fin.ext (by omega)⟩
  · rintro ⟨rfl, rfl⟩; simp

/-- A sum over the entries of a vector that satisfy a condition. -/
theorem sum_chosen_vec {n : ℕ} (P : (⟨1, ![n]⟩ : Shape).Idx → Prop) [DecidablePred P] (Q : Fin n → Prop) [DecidablePred Q]
    (hPQ : ∀ r, P (ix1 r) ↔ Q r) (u : (⟨1, ![n]⟩ : Shape).Idx → EReal) :
    ∑ j ∈ Finset.univ.filter P, u j = ∑ r, if Q r then u (ix1 r) else 0 := by
  rw [Finset.sum_filter, sum_idx1]
  exact Finset.sum_congr rfl fun r _ => if_congr (hPQ r) rfl rfl

/-- A sum over the entries of a matrix that satisfy a condition on the row and lie in one column. -/
theorem sum_chosen_mat {n k : ℕ} (h : Fin k) (P : (⟨2, ![n, k]⟩ : Shape).Idx → Prop) [DecidablePred P] (Q : Fin n → Prop) [DecidablePred Q]
    (hPQ : ∀ r j, P (ix2 r j) ↔ Q r ∧ j = h) (u : (⟨2, ![n, k]⟩ : Shape).Idx → EReal) :
    ∑ j ∈ Finset.univ.filter P, u j = ∑ r, if Q r then u (ix2 r h) else 0 := by
  rw [Finset.sum_filter, sum_idx2]
  refine Finset.sum_congr rfl fun r _ => ?_
  rw [Finset.sum_congr rfl fun j _ => if_congr (hPQ r j) rfl rfl]
  by_cases hq : Q r <;> simp [hq]

/-- The scatter of one number per row: each segment's entry plus its rows' numbers. -/
theorem scatter_vec (hidx : ∀ r, idx (ix2 r 0) = BitVec.ofNat 32 (g r).val) (z : FVec Idealize.ShloMosaic.Ideal S256 .f32)
    (u : FVec Idealize.ShloMosaic.Ideal S320000 .f32) (b : Fin 256) :
    Host.scatterAdd scatter_S256_S320000x1_S320000_n_0_0_1 z idx u (ix1 b) = z (ix1 b) + ∑ r, if g r = b then u (ix1 r) else 0 :=
  congrArg (z (ix1 b) + ·) (sum_chosen_vec _ (fun r => g r = b) (fun r => lands_vec g idx hidx r b) u)

/-- The scatter of one row of numbers per row: each segment's row plus its rows. -/
theorem scatter_mat (hidx : ∀ r, idx (ix2 r 0) = BitVec.ofNat 32 (g r).val) (z : FVec Idealize.ShloMosaic.Ideal S256x128 .f32)
    (u : FVec Idealize.ShloMosaic.Ideal S320000x128 .f32) (b : Fin 256) (h : Fin 128) :
    Host.scatterAdd scatter_S256x128_S320000x1_S320000x128_1_0_0_1 z idx u (ix2 b h)
      = z (ix2 b h) + ∑ r, if g r = b then u (ix2 r h) else 0 :=
  congrArg (z (ix2 b h) + ·) (sum_chosen_mat h _ (fun r => g r = b) (fun r k => lands_mat g idx hidx r k b h) u)

end Cert.Pool
end
-- ==== Proof.RefScore.lean ====
/-
The reference's scores: every row's attention score, moved by the last bias.
-/
module
public import proofs.«01_k».proof.Proof.RefOps
public import proofs.«01_k».proof.Proof.Inputs
public import proofs.«01_k».proof.Proof.BlockScore
@[expose] public section
noncomputable section
namespace Cert.Pool
open Idealize.ShloMosaic Cert.ReferenceIdeal Cert.ReferenceIdeal.Gen Cert.ReferenceIdeal.Read
set_option maxRecDepth 16384

variable {x : FVec Idealize.ShloMosaic.Ideal S320000x128 .f32} {seg : IVec S320000 32}
  {att : FVec Idealize.ShloMosaic.Ideal S128x128 .f32} {ba w : FVec Idealize.ShloMosaic.Ideal S128 .f32} {bs : FVec Idealize.ShloMosaic.Ideal S_ .f32}
variable {X : Fin 320000 → Fin 128 → ℝ} {g : Fin 320000 → Fin 256} {W : Fin 128 → Fin 128 → ℝ} {ws : Fin 128 → ℝ} {β : ℝ}

/-- The reference's score of a row. -/
theorem ref_score (hD : Drawn x seg att ba w bs X g W ws β) (r : Fin 320000) :
    val_main_v9 (F := Idealize.ShloMosaic.Ideal) x att ba w bs (ix1 r) = ((score W ws (X r) + β : ℝ) : EReal) := by
  pointwise [val_main_v9, val_main_v8, val_main_v7, val_main_v6, val_main_v5, val_main_v4, val_main_v3, val_main_v2, val_main_v1, val_main_v0, val_main_cst]
  unfold score
  rw [EReal.coe_add, coe_sum, hD.shift]
  refine congrArg (· + (β : EReal)) (Finset.sum_congr rfl fun k _ => ?_)
  rw [hD.weights, hD.bias, add_zero, EReal.coe_mul, coe_max, coe_sum, mul_comm]
  refine congrArg (fun q => (ws k : EReal) * max q ((0 : ℝ) : EReal)) (Finset.sum_congr rfl fun j _ => ?_)
  rw [hD.rows, hD.att, EReal.coe_mul, mul_comm]

/-- The reference's largest score of a segment that has a row is a real number. -/
theorem ref_largest (hD : Drawn x seg att ba w bs X g W ws β) (r : Fin 320000) :
    ∃ c : ℝ, val_main_v18 (F := Idealize.ShloMosaic.Ideal) x seg att ba w bs (ix1 (g r)) = (c : EReal) := by
  pointwise [val_main_v18, val_main_v17, val_main_call0_v1, val_main_call0_v2, val_main_call0_v0, val_main_cst_0, val_main_cst_1, val_main_v16, val_main_v15, val_main_v14, val_main_v13, val_main_v12, val_main_v11, val_main_v10]
  rw [bits_bot]
  refine fold_max_real_of_mem _ _ (fun q _ => ?_) r (Finset.mem_univ _) ?_
  · rw [ref_score hD q]
    unfold Scalar.select
    split
    · exact .inr ⟨_, rfl⟩
    · exact .inl bits_bot
  · rw [ref_score hD r, hD.seg]
    exact ⟨score W ws (X r) + β, if_pos ((cmpi_eq_one (by omega) (by omega)).mpr rfl)⟩

/-- The constant the reference subtracts from the scores of a segment that has a row is a real number. -/
theorem ref_subtracted (hD : Drawn x seg att ba w bs X g W ws β) :
    ∃ c : Fin 256 → ℝ, ∀ r, val_main_v22 (F := Idealize.ShloMosaic.Ideal) x seg att ba w bs (ix1 (g r)) = (c (g r) : EReal) := by
  have h : ∀ b, ∃ c : ℝ, ∀ r, g r = b → val_main_v22 (F := Idealize.ShloMosaic.Ideal) x seg att ba w bs (ix1 b) = (c : EReal) := by
    intro b
    by_cases hb : ∃ r, g r = b
    · obtain ⟨r, rfl⟩ := hb
      obtain ⟨c, hc⟩ := ref_largest hD r
      rw [val_main_v22_apply, hc]
      unfold Scalar.select
      split
      · exact ⟨c, fun _ _ => rfl⟩
      · refine ⟨0, fun _ _ => ?_⟩
        pointwise [val_main_call1_v1, val_main_call1_v0, val_main_cst_3]
        exact Idealize.ShloMosaic.Ideal.ofBits_zero_f32
    · exact ⟨0, fun r hr => (hb ⟨r, hr⟩).elim⟩
  choose c hc using h
  exact ⟨c, fun r => hc (g r) r rfl⟩

/-- A row's segment number below 256 is not wrapped. -/
theorem wrap_seg (hD : Drawn x seg att ba w bs X g W ws β) (r : Fin 320000) (v : BitVec 32) :
    Scalar.select (IntOp.cmpi CmpIPredicate.slt (seg (ix1 r)) 0#32) v (seg (ix1 r)) = BitVec.ofNat 32 (g r).val := by
  rw [hD.seg]
  exact Routing.wrap_of_lt _ _ (by rw [BitVec.toNat_ofNat]; omega)
end Cert.Pool
end
-- ==== Proof.RefValue.lean ====
/-
What the reference computes: every segment's softmax-weighted sum of its rows.
-/
module
public import proofs.«01_k».proof.Proof.RefScore
@[expose] public section
noncomputable section
namespace Cert.Pool
open Idealize.ShloMosaic Cert.ReferenceIdeal Cert.ReferenceIdeal.Gen Cert.ReferenceIdeal.Read
set_option maxRecDepth 16384

variable {x : FVec Idealize.ShloMosaic.Ideal S320000x128 .f32} {seg : IVec S320000 32}
  {att : FVec Idealize.ShloMosaic.Ideal S128x128 .f32} {ba w : FVec Idealize.ShloMosaic.Ideal S128 .f32} {bs : FVec Idealize.ShloMosaic.Ideal S_ .f32}
variable {X : Fin 320000 → Fin 128 → ℝ} {g : Fin 320000 → Fin 256} {W : Fin 128 → Fin 128 → ℝ} {ws : Fin 128 → ℝ} {β : ℝ}

/-- The exponential the reference takes at a row, for the constants `c` it subtracts. -/
theorem ref_exp (hD : Drawn x seg att ba w bs X g W ws β) (c : Fin 256 → ℝ)
    (hc : ∀ r, val_main_v22 (F := Idealize.ShloMosaic.Ideal) x seg att ba w bs (ix1 (g r)) = (c (g r) : EReal)) (r : Fin 320000) :
    val_main_v31 (F := Idealize.ShloMosaic.Ideal) x seg att ba w bs (ix1 r) = ((Real.exp (score W ws (X r) + β - c (g r)) : ℝ) : EReal) := by
  have hi : ∀ r, val_main_v28 (F := Idealize.ShloMosaic.Ideal) seg (ix2 r 0) = BitVec.ofNat 32 (g r).val := fun r => by
    pointwise [val_main_v28, val_main_v27, val_main_v26, val_main_v25, val_main_v24, val_main_v23, val_main_c, val_main_c_4]
    exact wrap_seg hD r _
  rw [val_main_v31_apply, val_main_v30_apply, ref_score hD, val_main_v29, gather_at g _ hi, hc]
  change Idealize.ShloMosaic.Ideal.exp (((score W ws (X r) + β : ℝ) : EReal) - (c (g r) : EReal)) = _
  rw [← EReal.coe_sub, Idealize.ShloMosaic.Ideal.exp_coe]

/-- The sum of exponentials the reference takes at a segment. -/
theorem ref_total (hD : Drawn x seg att ba w bs X g W ws β) (c : Fin 256 → ℝ)
    (hc : ∀ r, val_main_v22 (F := Idealize.ShloMosaic.Ideal) x seg att ba w bs (ix1 (g r)) = (c (g r) : EReal)) (b : Fin 256) :
    val_main_v34 (F := Idealize.ShloMosaic.Ideal) x seg att ba w bs (ix1 b)
      = ((∑ q, if g q = b then Real.exp (score W ws (X q) + β - c (g q)) else 0 : ℝ) : EReal) := by
  have hi : ∀ r, val_main_v33 (F := Idealize.ShloMosaic.Ideal) seg (ix2 r 0) = BitVec.ofNat 32 (g r).val := fun r => by
    pointwise [val_main_v33]
    exact hD.seg r
  have hz : val_main_v32 (F := Idealize.ShloMosaic.Ideal) (ix1 b) = (0 : EReal) := by
    pointwise [val_main_v32, val_main_cst_5]
  rw [val_main_v34, scatter_vec g _ hi, hz, zero_add, coe_sum]
  refine Finset.sum_congr rfl fun q _ => ?_
  rw [ref_exp hD c hc]
  split
  · rfl
  · simp

/-- A row's share of its segment's sum, as the reference takes it. -/
theorem ref_share (hD : Drawn x seg att ba w bs X g W ws β) (c : Fin 256 → ℝ)
    (hc : ∀ r, val_main_v22 (F := Idealize.ShloMosaic.Ideal) x seg att ba w bs (ix1 (g r)) = (c (g r) : EReal)) (r : Fin 320000) :
    val_main_v42 (F := Idealize.ShloMosaic.Ideal) x seg att ba w bs (ix1 r)
      = ((Real.exp (score W ws (X r) + β - c (g r)) / ∑ q, (if g q = g r then Real.exp (score W ws (X q) + β - c (g q)) else 0) : ℝ) : EReal) := by
  have hi : ∀ r, val_main_v40 (F := Idealize.ShloMosaic.Ideal) seg (ix2 r 0) = BitVec.ofNat 32 (g r).val := fun r => by
    pointwise [val_main_v40, val_main_v39, val_main_v38, val_main_v37, val_main_v36, val_main_v35, val_main_c_6, val_main_c_7]
    exact wrap_seg hD r _
  have hp : 0 < ∑ q, (if g q = g r then Real.exp (score W ws (X q) + β - c (g q)) else 0) := by
    refine Finset.sum_pos' (fun q _ => ?_) ⟨r, Finset.mem_univ _, ?_⟩
    · split
      · positivity
      · exact le_rfl
    · rw [if_pos rfl]; positivity
  rw [val_main_v42_apply, ref_exp hD c hc, val_main_v41, gather_at g _ hi, ref_total hD c hc]
  refine (Idealize.ShloMosaic.Ideal.div_coe hp.ne' _).trans ?_
  rw [← EReal.coe_mul, mul_one_div]

/-- The reference's result: every segment's pooled row. -/
theorem ref_value (hD : Drawn x seg att ba w bs X g W ws β) (b : Fin 256) (h : Fin 128) :
    val_main_v48 (F := Idealize.ShloMosaic.Ideal) x seg att ba w bs (ix2 b h)
      = ((pooled (fun r => score W ws (X r)) g (fun r => X r h) b : ℝ) : EReal) := by
  obtain ⟨c, hc⟩ := ref_subtracted hD
  have hi : ∀ r, val_main_v47 (F := Idealize.ShloMosaic.Ideal) seg (ix2 r 0) = BitVec.ofNat 32 (g r).val := fun r => by
    pointwise [val_main_v47]
    exact hD.seg r
  have hz : val_main_v46 (F := Idealize.ShloMosaic.Ideal) (ix2 b h) = (0 : EReal) := by
    pointwise [val_main_v46, val_main_cst_8]
  have hs : ∀ r, val_main_v44 (F := Idealize.ShloMosaic.Ideal) x seg att ba w bs (ix2 r h)
      = val_main_v42 (F := Idealize.ShloMosaic.Ideal) x seg att ba w bs (ix1 r) := fun r => by
    pointwise [val_main_v44, val_main_v43]
  rw [val_main_v48, scatter_mat g _ hi, hz, zero_add, ← sum_share (fun r => score W ws (X r)) g (fun r => X r h) β c b, coe_sum]
  refine Finset.sum_congr rfl fun r _ => ?_
  rw [val_main_v45_apply, hs, ref_share hD c hc, hD.rows]
  split
  · exact (EReal.coe_mul _ _).symm
  · simp

end Cert.Pool
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_drawn
public import proofs.«01_k».proof.Proof.Result
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel runs, keeps its arguments and ends quiescent, whatever its arguments: no block index is read from the
    prefetched table, so the launch's side condition on the table's contents is `True`. -/
theorem frame_kernel : Cert.quiescent_Kernel := fun m ρ _ => Cert.Kernel.Gen.frame m ρ trivial

/-- The same of the kernel over extended reals. -/
theorem frame_kernelIdeal : Cert.quiescent_KernelIdeal := fun m ρ _ => Cert.KernelIdeal.Gen.frame m ρ trivial

/-- The reference runs, keeps its arguments and ends quiescent: it is host operations only, so it touches no
    semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From memories that agree on the arguments, the kernel over extended reals and the reference over extended reals end
    with the same array: every segment's pooled rows, computed from the real arrays the precondition gives. -/
theorem algebraic : Cert.algebraic_KernelIdeal_ReferenceIdeal_pre_inputs_drawn := by
  intro m ρ m' ρ' hpre hargs
  obtain ⟨h1, h2, h3, h4, h5, h6, h7⟩ := hpre 0
  obtain ⟨X, g, W, ws, β, hD⟩ := Cert.Pool.drawn_of_pre _ _ _ _ _ _ h1 h2 h3 h4 h5 h6 h7
  refine ⟨fun _ => Cert.Pool.pooledArray X g W ws, Cert.Pool.kernel_run trivial hD ρ, ?_⟩
  refine (θ_run Cert.ReferenceIdeal.defs _ _).mono (fun r h c => ⟨?_, (h c).2⟩) (Cert.ReferenceIdeal.Value.run m' ρ')
  obtain rfl : c = 0 := Subsingleton.elim c 0
  obtain ⟨a0, a1, a2, a3, a4, a5⟩ := hargs 0
  refine (h 0).1.trans ((Cert.ReferenceIdeal.Read.val_main_v48_eq m' 0).trans ?_)
  rw [a0, a1, a2, a3, a4, a5]
  funext i
  obtain ⟨b, k, rfl⟩ : ∃ b k, i = ix2 b k := ⟨i 0, i 1, eq_ix2 i⟩
  exact Cert.Pool.ref_value hD b k

/-- All the claims of this proof. -/
theorem claim : Cert.Claim := ⟨Cert.Kernel.Gen.facts, Cert.KernelIdeal.Gen.facts, Cert.ReferenceIdeal.Gen.facts, Cert.Pre_inputs_drawn.Gen.facts,
  frame_kernel, frame_kernelIdeal, fun m ρ _ => frame_kernelIdeal m ρ trivial, frame_referenceIdeal, fun m ρ _ => frame_referenceIdeal m ρ trivial,
  trivial, algebraic⟩

end Cert.Proof

end
